-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.BufferStatement Cert.KernelIdeal.S4096x2x128 Cert.KernelIdeal.S4096x1x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.Statement Cert.KernelIdeal.S1024x2x128 Cert.KernelIdeal.S1024x1x128
  ∧ IdealRules.bf16_pair.Statement Cert.KernelIdeal.S2048x128 Cert.KernelIdeal.S1024x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x8192 : Shape := ⟨3, ![64, 1, 8192]⟩
abbrev S8192x1408 : Shape := ⟨2, ![8192, 1408]⟩
abbrev S64x1408 : Shape := ⟨2, ![64, 1408]⟩
abbrev S64x11264 : Shape := ⟨2, ![64, 11264]⟩
abbrev S8 : Shape := ⟨1, ![8]⟩
abbrev S64x8192 : Shape := ⟨2, ![64, 8192]⟩
abbrev S_ : Shape := ⟨0, ![]⟩
abbrev S64x8192x1 : Shape := ⟨3, ![64, 8192, 1]⟩
abbrev S64x8192x2 : Shape := ⟨3, ![64, 8192, 2]⟩
abbrev S64x16384 : Shape := ⟨2, ![64, 16384]⟩
abbrev S128x16384 : Shape := ⟨2, ![128, 16384]⟩
abbrev S64x1408x8 : Shape := ⟨3, ![64, 1408, 8]⟩
abbrev S8x1 : Shape := ⟨2, ![8, 1]⟩
abbrev S64x8x1408 : Shape := ⟨3, ![64, 8, 1408]⟩
abbrev S64x16x1408 : Shape := ⟨3, ![64, 16, 1408]⟩
abbrev S4x128x1408 : Shape := ⟨3, ![4, 128, 1408]⟩
abbrev S128x2048 : Shape := ⟨2, ![128, 2048]⟩
abbrev S1024x128 : Shape := ⟨2, ![1024, 128]⟩
abbrev S8x128 : Shape := ⟨2, ![8, 128]⟩
abbrev S8x16x128 : Shape := ⟨3, ![8, 16, 128]⟩
abbrev S4x128x128 : Shape := ⟨3, ![4, 128, 128]⟩
abbrev S4096x128 : Shape := ⟨2, ![4096, 128]⟩
abbrev S1x128 : Shape := ⟨2, ![1, 128]⟩
abbrev S8x8x128 : Shape := ⟨3, ![8, 8, 128]⟩
abbrev S8x1x128 : Shape := ⟨3, ![8, 1, 128]⟩
abbrev S64x128 : Shape := ⟨2, ![64, 128]⟩
abbrev S16x128 : Shape := ⟨2, ![16, 128]⟩
abbrev S1x16x128 : Shape := ⟨3, ![1, 16, 128]⟩
abbrev S2048x128 : Shape := ⟨2, ![2048, 128]⟩
abbrev S1x128x128 : Shape := ⟨3, ![1, 128, 128]⟩
abbrev S128x128 : Shape := ⟨2, ![128, 128]⟩
abbrev S8x64x1408 : Shape := ⟨3, ![8, 64, 1408]⟩
abbrev S64x1x11264 : Shape := ⟨3, ![64, 1, 11264]⟩

abbrev nBuf : Space → Nat
  | .hbm => 43
  | .vmem => 12
  | .smem => 0
  | _ => 0

abbrev bufTy : (tb : Table) → Fin (tcTables nBuf tb) → BufTy
  | .hbm, ⟨0, _⟩ => ⟨S64x1x8192, .bf16⟩
  | .hbm, ⟨1, _⟩ => ⟨S8192x1408, .i32⟩
  | .hbm, ⟨2, _⟩ => ⟨S64x1408, .i32⟩
  | .hbm, ⟨3, _⟩ => ⟨S64x11264, .bf16⟩
  | .hbm, ⟨4, _⟩ => ⟨S8, .i32⟩
  | .hbm, ⟨5, _⟩ => ⟨S8, .i32⟩
  | .hbm, ⟨6, _⟩ => ⟨S64x8192, .bf16⟩
  | .hbm, ⟨7, _⟩ => ⟨S_, .bf16⟩
  | .hbm, ⟨8, _⟩ => ⟨S64x8192, .bf16⟩
  | .hbm, ⟨9, _⟩ => ⟨S64x8192x1, .bf16⟩
  | .hbm, ⟨10, _⟩ => ⟨S64x8192x1, .bf16⟩
  | .hbm, ⟨11, _⟩ => ⟨S64x8192x2, .bf16⟩
  | .hbm, ⟨12, _⟩ => ⟨S64x16384, .bf16⟩
  | .hbm, ⟨13, _⟩ => ⟨S64x8192x1, .bf16⟩
  | .hbm, ⟨14, _⟩ => ⟨S64x8192x1, .bf16⟩
  | .hbm, ⟨15, _⟩ => ⟨S64x8192x2, .bf16⟩
  | .hbm, ⟨16, _⟩ => ⟨S64x16384, .bf16⟩
  | .hbm, ⟨17, _⟩ => ⟨S128x16384, .bf16⟩
  | .hbm, ⟨18, _⟩ => ⟨S64x1408x8, .bf16⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S64x1408x8, .bf16⟩
  | .hbm, ⟨28, _⟩ => ⟨S64x8x1408, .bf16⟩
  | .hbm, ⟨29, _⟩ => ⟨S64x16x1408, .bf16⟩
  | .hbm, ⟨30, _⟩ => ⟨S4x128x1408, .bf16⟩
  | .hbm, ⟨31, _⟩ => ⟨S8x64x1408, .bf16⟩
  | .hbm, ⟨32, _⟩ => ⟨S_, .i32⟩
  | .hbm, ⟨33, _⟩ => ⟨S8, .i32⟩
  | .hbm, ⟨34, _⟩ => ⟨S8, .i1⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S8x1, .i32⟩
  | .hbm, ⟨40, _⟩ => ⟨S8x64x1408, .bf16⟩
  | .hbm, ⟨41, _⟩ => ⟨S64x1408x8, .bf16⟩
  | .hbm, ⟨42, _⟩ => ⟨S64x1x11264, .bf16⟩
  | .local _ .vmem, ⟨0, _⟩ => ⟨S128x2048, .bf16⟩
  | .local _ .vmem, ⟨1, _⟩ => ⟨S128x2048, .bf16⟩
  | .local _ .vmem, ⟨2, _⟩ => ⟨S1024x128, .i32⟩
  | .local _ .vmem, ⟨3, _⟩ => ⟨S1024x128, .i32⟩
  | .local _ .vmem, ⟨4, _⟩ => ⟨S8x128, .i32⟩
  | .local _ .vmem, ⟨5, _⟩ => ⟨S8x128, .i32⟩
  | .local _ .vmem, ⟨6, _⟩ => ⟨S8x16x128, .bf16⟩
  | .local _ .vmem, ⟨7, _⟩ => ⟨S8x16x128, .bf16⟩
  | .local _ .vmem, ⟨8, _⟩ => ⟨S4x128x128, .bf16⟩
  | .local _ .vmem, ⟨9, _⟩ => ⟨S4x128x128, .bf16⟩
  | .local _ .vmem, ⟨10, _⟩ => ⟨S4096x128, .i32⟩
  | .local _ .vmem, ⟨11, _⟩ => ⟨S4x128x128, .f32⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨2, ![11, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v51 : Index := Scalar.indexCast arg9
  let c0_43 : Index := 0#32
  ![v51.toNat, 0]
def k0_off2 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let v67 : Index := Scalar.indexCast arg9
  let c0_44 : Index := 0#32
  let c0_45 : Index := 0#32
  ![v67.toNat, 0, 0]
def k0_off3 (k0_t1 : Fin k0_t1_loop.trips) (c0_i32_46 : BitVec 32) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v70 : BitVec 32 := Scalar.muli arg9 c128_i32
  let v71 : BitVec 32 := Scalar.addi v70 c0_i32_46
  let v72 : Index := Scalar.indexCast v71
  let c0_47 : Index := 0#32
  ![v72.toNat, 0]
def k0_off4 (k0_t1 : Fin k0_t1_loop.trips) (c0_i32_50 : BitVec 32) (c0_i32_51 : BitVec 32) : Fin 2 → Nat :=
  let c0_i32_1 : BitVec 32 := 0#32
  let c1_i32 : BitVec 32 := 1#32
  let arg9 : BitVec 32 := Scf.iv c0_i32_1 c1_i32 k0_t1
  let c16_i32 : BitVec 32 := 16#32
  let v89 : BitVec 32 := Scalar.muli arg9 c16_i32
  let v90 : BitVec 32 := Scalar.addi v89 c0_i32_50
  let c32_i32 : BitVec 32 := 32#32
  let v91 : BitVec 32 := Scalar.muli v90 c32_i32
  let v92 : BitVec 32 := Scalar.addi v91 c0_i32_51
  let v93 : Index := Scalar.indexCast v92
  let c0_52 : Index := 0#32
  ![v93.toNat, 0]
def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_42 : BitVec 32 := 0#32
  let v50 : BitVec 1 := Scalar.cmpi .ne v49 c0_i32_42
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
abbrev S64x1x8192 : Shape := ⟨3, ![64, 1, 8192]⟩
abbrev S8192x1408 : Shape := ⟨2, ![8192, 1408]⟩
abbrev S64x1408 : Shape := ⟨2, ![64, 1408]⟩
abbrev S64x11264 : Shape := ⟨2, ![64, 11264]⟩
abbrev S8 : Shape := ⟨1, ![8]⟩
abbrev S64x8192 : Shape := ⟨2, ![64, 8192]⟩
abbrev S_ : Shape := ⟨0, ![]⟩
abbrev S64x8192x1 : Shape := ⟨3, ![64, 8192, 1]⟩
abbrev S64x8192x2 : Shape := ⟨3, ![64, 8192, 2]⟩
abbrev S64x16384 : Shape := ⟨2, ![64, 16384]⟩
abbrev S128x16384 : Shape := ⟨2, ![128, 16384]⟩
abbrev S64x1408x8 : Shape := ⟨3, ![64, 1408, 8]⟩
abbrev S8x1 : Shape := ⟨2, ![8, 1]⟩
abbrev S64x8x1408 : Shape := ⟨3, ![64, 8, 1408]⟩
abbrev S64x16x1408 : Shape := ⟨3, ![64, 16, 1408]⟩
abbrev S4x128x1408 : Shape := ⟨3, ![4, 128, 1408]⟩
abbrev S128x2048 : Shape := ⟨2, ![128, 2048]⟩
abbrev S1024x128 : Shape := ⟨2, ![1024, 128]⟩
abbrev S8x128 : Shape := ⟨2, ![8, 128]⟩
abbrev S8x16x128 : Shape := ⟨3, ![8, 16, 128]⟩
abbrev S4x128x128 : Shape := ⟨3, ![4, 128, 128]⟩
abbrev S4096x128 : Shape := ⟨2, ![4096, 128]⟩
abbrev S4096x2x128 : Shape := ⟨3, ![4096, 2, 128]⟩
abbrev S4096x1x128 : Shape := ⟨3, ![4096, 1, 128]⟩
abbrev S1x128 : Shape := ⟨2, ![1, 128]⟩
abbrev S8x8x128 : Shape := ⟨3, ![8, 8, 128]⟩
abbrev S8x1x128 : Shape := ⟨3, ![8, 1, 128]⟩
abbrev S64x128 : Shape := ⟨2, ![64, 128]⟩
abbrev S16x128 : Shape := ⟨2, ![16, 128]⟩
abbrev S1x16x128 : Shape := ⟨3, ![1, 16, 128]⟩
abbrev S8x2x128 : Shape := ⟨3, ![8, 2, 128]⟩
abbrev S1024x2x128 : Shape := ⟨3, ![1024, 2, 128]⟩
abbrev S1024x1x128 : Shape := ⟨3, ![1024, 1, 128]⟩
abbrev S2048x128 : Shape := ⟨2, ![2048, 128]⟩
abbrev S1x128x128 : Shape := ⟨3, ![1, 128, 128]⟩
abbrev S128x128 : Shape := ⟨2, ![128, 128]⟩
abbrev S8x64x1408 : Shape := ⟨3, ![8, 64, 1408]⟩
abbrev S64x1x11264 : Shape := ⟨3, ![64, 1, 11264]⟩

abbrev nBuf : Space → Nat
  | .hbm => 43
  | .vmem => 12
  | .smem => 0
  | _ => 0

abbrev bufTy : (tb : Table) → Fin (tcTables nBuf tb) → BufTy
  | .hbm, ⟨0, _⟩ => ⟨S64x1x8192, .bf16⟩
  | .hbm, ⟨1, _⟩ => ⟨S8192x1408, .i32⟩
  | .hbm, ⟨2, _⟩ => ⟨S64x1408, .i32⟩
  | .hbm, ⟨3, _⟩ => ⟨S64x11264, .bf16⟩
  | .hbm, ⟨4, _⟩ => ⟨S8, .i32⟩
  | .hbm, ⟨5, _⟩ => ⟨S8, .i32⟩
  | .hbm, ⟨6, _⟩ => ⟨S64x8192, .bf16⟩
  | .hbm, ⟨7, _⟩ => ⟨S_, .bf16⟩
  | .hbm, ⟨8, _⟩ => ⟨S64x8192, .bf16⟩
  | .hbm, ⟨9, _⟩ => ⟨S64x8192x1, .bf16⟩
  | .hbm, ⟨10, _⟩ => ⟨S64x8192x1, .bf16⟩
  | .hbm, ⟨11, _⟩ => ⟨S64x8192x2, .bf16⟩
  | .hbm, ⟨12, _⟩ => ⟨S64x16384, .bf16⟩
  | .hbm, ⟨13, _⟩ => ⟨S64x8192x1, .bf16⟩
  | .hbm, ⟨14, _⟩ => ⟨S64x8192x1, .bf16⟩
  | .hbm, ⟨15, _⟩ => ⟨S64x8192x2, .bf16⟩
  | .hbm, ⟨16, _⟩ => ⟨S64x16384, .bf16⟩
  | .hbm, ⟨17, _⟩ => ⟨S128x16384, .bf16⟩
  | .hbm, ⟨18, _⟩ => ⟨S64x1408x8, .bf16⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S8x1, .i32⟩
  | .hbm, ⟨27, _⟩ => ⟨S64x1408x8, .bf16⟩
  | .hbm, ⟨28, _⟩ => ⟨S64x8x1408, .bf16⟩
  | .hbm, ⟨29, _⟩ => ⟨S64x16x1408, .bf16⟩
  | .hbm, ⟨30, _⟩ => ⟨S4x128x1408, .bf16⟩
  | .hbm, ⟨31, _⟩ => ⟨S8x64x1408, .bf16⟩
  | .hbm, ⟨32, _⟩ => ⟨S_, .i32⟩
  | .hbm, ⟨33, _⟩ => ⟨S8, .i32⟩
  | .hbm, ⟨34, _⟩ => ⟨S8, .i1⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S8, .i32⟩
  | .hbm, ⟨39, _⟩ => ⟨S8x1, .i32⟩
  | .hbm, ⟨40, _⟩ => ⟨S8x64x1408, .bf16⟩
  | .hbm, ⟨41, _⟩ => ⟨S64x1408x8, .bf16⟩
  | .hbm, ⟨42, _⟩ => ⟨S64x1x11264, .bf16⟩
  | .local _ .vmem, ⟨0, _⟩ => ⟨S128x2048, .bf16⟩
  | .local _ .vmem, ⟨1, _⟩ => ⟨S128x2048, .bf16⟩
  | .local _ .vmem, ⟨2, _⟩ => ⟨S1024x128, .i32⟩
  | .local _ .vmem, ⟨3, _⟩ => ⟨S1024x128, .i32⟩
  | .local _ .vmem, ⟨4, _⟩ => ⟨S8x128, .i32⟩
  | .local _ .vmem, ⟨5, _⟩ => ⟨S8x128, .i32⟩
  | .local _ .vmem, ⟨6, _⟩ => ⟨S8x16x128, .bf16⟩
  | .local _ .vmem, ⟨7, _⟩ => ⟨S8x16x128, .bf16⟩
  | .local _ .vmem, ⟨8, _⟩ => ⟨S4x128x128, .bf16⟩
  | .local _ .vmem, ⟨9, _⟩ => ⟨S4x128x128, .bf16⟩
  | .local _ .vmem, ⟨10, _⟩ => ⟨S4096x2x128, .bf16⟩
  | .local _ .vmem, ⟨11, _⟩ => ⟨S4x128x128, .f32⟩
  | _, _ => ⟨S64x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![11, 8], ![false, false]⟩

@[reducible] def k0_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off1 (k0_t1 : Fin k0_t1_loop.trips) : Fin 2 → Nat :=
  let c0_i32_1 : BitVec 32 := 0#32
  let c1_i32 : BitVec 32 := 1#32
  let arg9 : BitVec 32 := Scf.iv c0_i32_1 c1_i32 k0_t1
  let v51 : Index := Scalar.indexCast arg9
  let c0_43 : Index := 0#32
  ![v51.toNat, 0]
def k0_off2 (k0_t1 : Fin k0_t1_loop.trips) : Fin 3 → Nat :=
  let c0_i32_1 : BitVec 32 := 0#32
  let c1_i32 : BitVec 32 := 1#32
  let arg9 : BitVec 32 := Scf.iv c0_i32_1 c1_i32 k0_t1
  let v67 : Index := Scalar.indexCast arg9
  let c0_44 : Index := 0#32
  let c0_45 : Index := 0#32
  ![v67.toNat, 0, 0]
def k0_off3 (k0_t1 : Fin k0_t1_loop.trips) (c0_i32_46 : BitVec 32) : Fin 2 → Nat :=
  let c0_i32_1 : BitVec 32 := 0#32
  let c1_i32 : BitVec 32 := 1#32
  let arg9 : BitVec 32 := Scf.iv c0_i32_1 c1_i32 k0_t1
  let c128_i32 : BitVec 32 := 128#32
  let v70 : BitVec 32 := Scalar.muli arg9 c128_i32
  let v71 : BitVec 32 := Scalar.addi v70 c0_i32_46
  let v72 : Index := Scalar.indexCast v71
  let c0_47 : Index := 0#32
  ![v72.toNat, 0]
def k0_off4 (k0_t1 : Fin k0_t1_loop.trips) (c0_i32_50 : BitVec 32) (c0_i32_51 : BitVec 32) : Fin 3 → Nat :=
  let c0_i32_1 : BitVec 32 := 0#32
  let c1_i32 : BitVec 32 := 1#32
  let arg9 : BitVec 32 := Scf.iv c0_i32_1 c1_i32 k0_t1
  let c16_i32 : BitVec 32 := 16#32
  let v89 : BitVec 32 := Scalar.muli arg9 c16_i32
  let v90 : BitVec 32 := Scalar.addi v89 c0_i32_50
  let c32_i32 : BitVec 32 := 32#32
  let v91 : BitVec 32 := Scalar.muli v90 c32_i32
  let v92 : BitVec 32 := Scalar.addi v91 c0_i32_51
  let v93 : Index := Scalar.indexCast v92
  let c0_52 : Index := 0#32
  ![v93.toNat, 0, 0]
def k0_cond2 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_42 : BitVec 32 := 0#32
  let v50 : BitVec 1 := Scalar.cmpi .ne v49 c0_i32_42
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S64x1x8192 : Shape := ⟨3, ![64, 1, 8192]⟩
abbrev S8192x1408 : Shape := ⟨2, ![8192, 1408]⟩
abbrev S64x1408 : Shape := ⟨2, ![64, 1408]⟩
abbrev S64x11264 : Shape := ⟨2, ![64, 11264]⟩
abbrev S64x1408x8 : Shape := ⟨3, ![64, 1408, 8]⟩
abbrev S_ : Shape := ⟨0, ![]⟩
abbrev S64x1408x1 : Shape := ⟨3, ![64, 1408, 1]⟩
abbrev S64x128x1408 : Shape := ⟨3, ![64, 128, 1408]⟩
abbrev S64x1x1408 : Shape := ⟨3, ![64, 1, 1408]⟩
abbrev S64x1x1408x1 : Shape := ⟨4, ![64, 1, 1408, 1]⟩
abbrev S64x1x1408x8 : Shape := ⟨4, ![64, 1, 1408, 8]⟩
abbrev S64x1x11264 : Shape := ⟨3, ![64, 1, 11264]⟩

abbrev nBuf : Space → Nat
  | .hbm => 216
  | .vmem => 0
  | .smem => 0
  | _ => 0

abbrev hbmTy0_0 (i : Nat) : BufTy := match i % 128 with
  | 0 => ⟨S64x1x8192, .bf16⟩
  | 1 => ⟨S8192x1408, .i32⟩
  | 2 => ⟨S64x1408, .i32⟩
  | 3 => ⟨S64x11264, .bf16⟩
  | 4 => ⟨S64x1408x8, .bf16⟩
  | 5 => ⟨S_, .i32⟩
  | 6 => ⟨S8192x1408, .i32⟩
  | 7 => ⟨S8192x1408, .i32⟩
  | 8 => ⟨S_, .i32⟩
  | 9 => ⟨S8192x1408, .i32⟩
  | 10 => ⟨S8192x1408, .i32⟩
  | 11 => ⟨S8192x1408, .bf16⟩
  | 12 => ⟨S_, .i32⟩
  | 13 => ⟨S64x1408, .i32⟩
  | 14 => ⟨S64x1408, .i32⟩
  | 15 => ⟨S_, .i32⟩
  | 16 => ⟨S64x1408, .i32⟩
  | 17 => ⟨S64x1408, .i32⟩
  | 18 => ⟨S64x1408, .bf16⟩
  | 19 => ⟨S64x1408x1, .bf16⟩
  | 20 => ⟨S64x1408, .bf16⟩
  | 21 => ⟨S64x128x1408, .bf16⟩
  | 22 => ⟨S64x1x1408, .bf16⟩
  | 23 => ⟨S64x128x1408, .bf16⟩
  | 24 => ⟨S64x128x1408, .bf16⟩
  | 25 => ⟨S64x1x1408, .bf16⟩
  | 26 => ⟨S64x128x1408, .bf16⟩
  | 27 => ⟨S64x128x1408, .bf16⟩
  | 28 => ⟨S8192x1408, .bf16⟩
  | 29 => ⟨S64x1x1408, .f32⟩
  | 30 => ⟨S_, .i32⟩
  | 31 => ⟨S8192x1408, .i32⟩
  | 32 => ⟨S8192x1408, .i32⟩
  | 33 => ⟨S_, .i32⟩
  | 34 => ⟨S8192x1408, .i32⟩
  | 35 => ⟨S8192x1408, .i32⟩
  | 36 => ⟨S8192x1408, .bf16⟩
  | 37 => ⟨S_, .i32⟩
  | 38 => ⟨S64x1408, .i32⟩
  | 39 => ⟨S64x1408, .i32⟩
  | 40 => ⟨S_, .i32⟩
  | 41 => ⟨S64x1408, .i32⟩
  | 42 => ⟨S64x1408, .i32⟩
  | 43 => ⟨S64x1408, .bf16⟩
  | 44 => ⟨S64x1408x1, .bf16⟩
  | 45 => ⟨S64x1408, .bf16⟩
  | 46 => ⟨S64x128x1408, .bf16⟩
  | 47 => ⟨S64x1x1408, .bf16⟩
  | 48 => ⟨S64x128x1408, .bf16⟩
  | 49 => ⟨S64x128x1408, .bf16⟩
  | 50 => ⟨S64x1x1408, .bf16⟩
  | 51 => ⟨S64x128x1408, .bf16⟩
  | 52 => ⟨S64x128x1408, .bf16⟩
  | 53 => ⟨S8192x1408, .bf16⟩
  | 54 => ⟨S64x1x1408, .f32⟩
  | 55 => ⟨S_, .i32⟩
  | 56 => ⟨S8192x1408, .i32⟩
  | 57 => ⟨S8192x1408, .i32⟩
  | 58 => ⟨S_, .i32⟩
  | 59 => ⟨S8192x1408, .i32⟩
  | 60 => ⟨S8192x1408, .i32⟩
  | 61 => ⟨S8192x1408, .bf16⟩
  | 62 => ⟨S_, .i32⟩
  | 63 => ⟨S64x1408, .i32⟩
  | 64 => ⟨S64x1408, .i32⟩
  | 65 => ⟨S_, .i32⟩
  | 66 => ⟨S64x1408, .i32⟩
  | 67 => ⟨S64x1408, .i32⟩
  | 68 => ⟨S64x1408, .bf16⟩
  | 69 => ⟨S64x1408x1, .bf16⟩
  | 70 => ⟨S64x1408, .bf16⟩
  | 71 => ⟨S64x128x1408, .bf16⟩
  | 72 => ⟨S64x1x1408, .bf16⟩
  | 73 => ⟨S64x128x1408, .bf16⟩
  | 74 => ⟨S64x128x1408, .bf16⟩
  | 75 => ⟨S64x1x1408, .bf16⟩
  | 76 => ⟨S64x128x1408, .bf16⟩
  | 77 => ⟨S64x128x1408, .bf16⟩
  | 78 => ⟨S8192x1408, .bf16⟩
  | 79 => ⟨S64x1x1408, .f32⟩
  | 80 => ⟨S_, .i32⟩
  | 81 => ⟨S8192x1408, .i32⟩
  | 82 => ⟨S8192x1408, .i32⟩
  | 83 => ⟨S_, .i32⟩
  | 84 => ⟨S8192x1408, .i32⟩
  | 85 => ⟨S8192x1408, .i32⟩
  | 86 => ⟨S8192x1408, .bf16⟩
  | 87 => ⟨S_, .i32⟩
  | 88 => ⟨S64x1408, .i32⟩
  | 89 => ⟨S64x1408, .i32⟩
  | 90 => ⟨S_, .i32⟩
  | 91 => ⟨S64x1408, .i32⟩
  | 92 => ⟨S64x1408, .i32⟩
  | 93 => ⟨S64x1408, .bf16⟩
  | 94 => ⟨S64x1408x1, .bf16⟩
  | 95 => ⟨S64x1408, .bf16⟩
  | 96 => ⟨S64x128x1408, .bf16⟩
  | 97 => ⟨S64x1x1408, .bf16⟩
  | 98 => ⟨S64x128x1408, .bf16⟩
  | 99 => ⟨S64x128x1408, .bf16⟩
  | 100 => ⟨S64x1x1408, .bf16⟩
  | 101 => ⟨S64x128x1408, .bf16⟩
  | 102 => ⟨S64x128x1408, .bf16⟩
  | 103 => ⟨S8192x1408, .bf16⟩
  | 104 => ⟨S64x1x1408, .f32⟩
  | 105 => ⟨S_, .i32⟩
  | 106 => ⟨S8192x1408, .i32⟩
  | 107 => ⟨S8192x1408, .i32⟩
  | 108 => ⟨S_, .i32⟩
  | 109 => ⟨S8192x1408, .i32⟩
  | 110 => ⟨S8192x1408, .i32⟩
  | 111 => ⟨S8192x1408, .bf16⟩
  | 112 => ⟨S_, .i32⟩
  | 113 => ⟨S64x1408, .i32⟩
  | 114 => ⟨S64x1408, .i32⟩
  | 115 => ⟨S_, .i32⟩
  | 116 => ⟨S64x1408, .i32⟩
  | 117 => ⟨S64x1408, .i32⟩
  | 118 => ⟨S64x1408, .bf16⟩
  | 119 => ⟨S64x1408x1, .bf16⟩
  | 120 => ⟨S64x1408, .bf16⟩
  | 121 => ⟨S64x128x1408, .bf16⟩
  | 122 => ⟨S64x1x1408, .bf16⟩
  | 123 => ⟨S64x128x1408, .bf16⟩
  | 124 => ⟨S64x128x1408, .bf16⟩
  | 125 => ⟨S64x1x1408, .bf16⟩
  | 126 => ⟨S64x128x1408, .bf16⟩
  | 127 => ⟨S64x128x1408, .bf16⟩
  | _ => ⟨S64x1x8192, .bf16⟩

abbrev hbmTy0_1 (i : Nat) : BufTy := match i % 128 with
  | 0 => ⟨S8192x1408, .bf16⟩
  | 1 => ⟨S64x1x1408, .f32⟩
  | 2 => ⟨S_, .i32⟩
  | 3 => ⟨S8192x1408, .i32⟩
  | 4 => ⟨S8192x1408, .i32⟩
  | 5 => ⟨S_, .i32⟩
  | 6 => ⟨S8192x1408, .i32⟩
  | 7 => ⟨S8192x1408, .i32⟩
  | 8 => ⟨S8192x1408, .bf16⟩
  | 9 => ⟨S_, .i32⟩
  | 10 => ⟨S64x1408, .i32⟩
  | 11 => ⟨S64x1408, .i32⟩
  | 12 => ⟨S_, .i32⟩
  | 13 => ⟨S64x1408, .i32⟩
  | 14 => ⟨S64x1408, .i32⟩
  | 15 => ⟨S64x1408, .bf16⟩
  | 16 => ⟨S64x1408x1, .bf16⟩
  | 17 => ⟨S64x1408, .bf16⟩
  | 18 => ⟨S64x128x1408, .bf16⟩
  | 19 => ⟨S64x1x1408, .bf16⟩
  | 20 => ⟨S64x128x1408, .bf16⟩
  | 21 => ⟨S64x128x1408, .bf16⟩
  | 22 => ⟨S64x1x1408, .bf16⟩
  | 23 => ⟨S64x128x1408, .bf16⟩
  | 24 => ⟨S64x128x1408, .bf16⟩
  | 25 => ⟨S8192x1408, .bf16⟩
  | 26 => ⟨S64x1x1408, .f32⟩
  | 27 => ⟨S_, .i32⟩
  | 28 => ⟨S8192x1408, .i32⟩
  | 29 => ⟨S8192x1408, .i32⟩
  | 30 => ⟨S_, .i32⟩
  | 31 => ⟨S8192x1408, .i32⟩
  | 32 => ⟨S8192x1408, .i32⟩
  | 33 => ⟨S8192x1408, .bf16⟩
  | 34 => ⟨S_, .i32⟩
  | 35 => ⟨S64x1408, .i32⟩
  | 36 => ⟨S64x1408, .i32⟩
  | 37 => ⟨S_, .i32⟩
  | 38 => ⟨S64x1408, .i32⟩
  | 39 => ⟨S64x1408, .i32⟩
  | 40 => ⟨S64x1408, .bf16⟩
  | 41 => ⟨S64x1408x1, .bf16⟩
  | 42 => ⟨S64x1408, .bf16⟩
  | 43 => ⟨S64x128x1408, .bf16⟩
  | 44 => ⟨S64x1x1408, .bf16⟩
  | 45 => ⟨S64x128x1408, .bf16⟩
  | 46 => ⟨S64x128x1408, .bf16⟩
  | 47 => ⟨S64x1x1408, .bf16⟩
  | 48 => ⟨S64x128x1408, .bf16⟩
  | 49 => ⟨S64x128x1408, .bf16⟩
  | 50 => ⟨S8192x1408, .bf16⟩
  | 51 => ⟨S64x1x1408, .f32⟩
  | 52 => ⟨S_, .i32⟩
  | 53 => ⟨S8192x1408, .i32⟩
  | 54 => ⟨S8192x1408, .i32⟩
  | 55 => ⟨S_, .i32⟩
  | 56 => ⟨S8192x1408, .i32⟩
  | 57 => ⟨S8192x1408, .i32⟩
  | 58 => ⟨S8192x1408, .bf16⟩
  | 59 => ⟨S_, .i32⟩
  | 60 => ⟨S64x1408, .i32⟩
  | 61 => ⟨S64x1408, .i32⟩
  | 62 => ⟨S_, .i32⟩
  | 63 => ⟨S64x1408, .i32⟩
  | 64 => ⟨S64x1408, .i32⟩
  | 65 => ⟨S64x1408, .bf16⟩
  | 66 => ⟨S64x1408x1, .bf16⟩
  | 67 => ⟨S64x1408, .bf16⟩
  | 68 => ⟨S64x128x1408, .bf16⟩
  | 69 => ⟨S64x1x1408, .bf16⟩
  | 70 => ⟨S64x128x1408, .bf16⟩
  | 71 => ⟨S64x128x1408, .bf16⟩
  | 72 => ⟨S64x1x1408, .bf16⟩
  | 73 => ⟨S64x128x1408, .bf16⟩
  | 74 => ⟨S64x128x1408, .bf16⟩
  | 75 => ⟨S8192x1408, .bf16⟩
  | 76 => ⟨S64x1x1408, .f32⟩
  | 77 => ⟨S64x1x1408x1, .f32⟩
  | 78 => ⟨S64x1x1408x1, .f32⟩
  | 79 => ⟨S64x1x1408x1, .f32⟩
  | 80 => ⟨S64x1x1408x1, .f32⟩
  | 81 => ⟨S64x1x1408x1, .f32⟩
  | 82 => ⟨S64x1x1408x1, .f32⟩
  | 83 => ⟨S64x1x1408x1, .f32⟩
  | 84 => ⟨S64x1x1408x1, .f32⟩
  | 85 => ⟨S64x1x1408x8, .f32⟩
  | 86 => ⟨S64x1x11264, .f32⟩
  | 87 => ⟨S64x1x11264, .bf16⟩
  | _ => ⟨S64x1x8192, .bf16⟩

abbrev hbmTy (i : Nat) : BufTy := match i / 128 with
  | 0 => hbmTy0_0 i
  | 1 => hbmTy0_1 i
  | _ => ⟨S64x1x8192, .bf16⟩

abbrev bufTy : (tb : Table) → Fin (tcTables nBuf tb) → BufTy
  | .hbm, ⟨i, _⟩ => hbmTy i
  | _, _ => ⟨S64x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_7 : Ref sig .tc := ⟨.hbm, 55, rfl⟩
abbrev main_v43 : Ref sig .tc := ⟨.hbm, 56, rfl⟩
abbrev main_v44 : Ref sig .tc := ⟨.hbm, 57, rfl⟩
abbrev main_c_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_c_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_11 : Ref sig .tc := ⟨.hbm, 80, rfl⟩
abbrev main_v64 : Ref sig .tc := ⟨.hbm, 81, rfl⟩
abbrev main_v65 : Ref sig .tc := ⟨.hbm, 82, rfl⟩
abbrev main_c_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_13 : Ref sig .tc := ⟨.hbm, 87, rfl⟩
abbrev main_v69 : Ref sig .tc := ⟨.hbm, 88, rfl⟩
abbrev main_v70 : Ref sig .tc := ⟨.hbm, 89, rfl⟩
abbrev main_c_14 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_15 : Ref sig .tc := ⟨.hbm, 105, rfl⟩
abbrev main_v85 : Ref sig .tc := ⟨.hbm, 106, rfl⟩
abbrev main_v86 : Ref sig .tc := ⟨.hbm, 107, rfl⟩
abbrev main_c_16 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_c_17 : Ref sig .tc := ⟨.hbm, 112, rfl⟩
abbrev main_v90 : Ref sig .tc := ⟨.hbm, 113, rfl⟩
abbrev main_v91 : Ref sig .tc := ⟨.hbm, 114, rfl⟩
abbrev main_c_18 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_c_19 : Ref sig .tc := ⟨.hbm, 130, rfl⟩
abbrev main_v106 : Ref sig .tc := ⟨.hbm, 131, rfl⟩
abbrev main_v107 : Ref sig .tc := ⟨.hbm, 132, rfl⟩
abbrev main_c_20 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_c_21 : Ref sig .tc := ⟨.hbm, 137, rfl⟩
abbrev main_v111 : Ref sig .tc := ⟨.hbm, 138, rfl⟩
abbrev main_v112 : Ref sig .tc := ⟨.hbm, 139, rfl⟩
abbrev main_c_22 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_c_23 : Ref sig .tc := ⟨.hbm, 155, rfl⟩
abbrev main_v127 : Ref sig .tc := ⟨.hbm, 156, rfl⟩
abbrev main_v128 : Ref sig .tc := ⟨.hbm, 157, rfl⟩
abbrev main_c_24 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_c_25 : Ref sig .tc := ⟨.hbm, 162, rfl⟩
abbrev main_v132 : Ref sig .tc := ⟨.hbm, 163, rfl⟩
abbrev main_v133 : Ref sig .tc := ⟨.hbm, 164, rfl⟩
abbrev main_c_26 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_c_27 : Ref sig .tc := ⟨.hbm, 180, rfl⟩
abbrev main_v148 : Ref sig .tc := ⟨.hbm, 181, rfl⟩
abbrev main_v149 : Ref sig .tc := ⟨.hbm, 182, rfl⟩
abbrev main_c_28 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_c_29 : Ref sig .tc := ⟨.hbm, 187, rfl⟩
abbrev main_v153 : Ref sig .tc := ⟨.hbm, 188, rfl⟩
abbrev main_v154 : Ref sig .tc := ⟨.hbm, 189, rfl⟩
abbrev main_c_30 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩

abbrev nD : Nat := 1
abbrev τ : Topo := Topo.v7x

variable {F : FTy → Type} [FloatOps F]
-- ==== Proof.Words.lean ====
module
public import proofs.«01_k».proof.Proof.Gen.KernelIdeal.Frame
public import Idealize.ShloMosaic.Lib.Pipeline.ReadBack
public import Idealize.ShloMosaic.Lib.Pipeline.Value
public import Idealize.ShloMosaic.Lib.Pointwise.TacticCore
public import Idealize.ShloMosaic.Lib.Bf16Pair
public import Idealize.ShloMosaic.Lib.Bf16PairInverse
@[expose] public section
set_option maxRecDepth 16384
noncomputable section
namespace Cert.KernelIdeal.Hand
open Cert.KernelIdeal Cert.KernelIdeal.Gen Idealize.ShloMosaic Idealize.ShloMosaic.TcCoe Idealize.SL.Sem
variable {F : FTy → Type} [FloatOps F]

/-- Field `b` of a packed word: shifted down by `4 b` and masked to four bits. -/
def nibW (w : BitVec 32) (b : Nat) : BitVec 32 := IntOp.andi (IntOp.shrsi .vector w (IntOp.muli 4#32 (BitVec.ofNat 32 b))) 15#32

/-- The same field as a float. -/
def nibF (w : BitVec 32) (b : Nat) : F .bf16 := FloatOps.sitofp .bf16 (nibW w b)

/-- The eight fields of each of eight rows of packed words, as 64 rows. -/
def nib64 (q : IVec S8x128 32) : FVec F S64x128 .bf16 :=
  sitofp .bf16 (shapeCast S64x128 (andi (shrsi (broadcastTo S8x8x128 (shapeCast S8x1x128 (shapeCast S8x1x128 q shapeCasts_S8x128_S8x1x128) shapeCasts_S8x1x128_S8x1x128) broadcasts_S8x1x128_S8x8x128)
    (muli (broadcast S8x8x128 4#32) (iota .tc S8x8x128 32 [1] iota_S8x8x128_d1_w32))) (broadcast S8x8x128 15#32)) shapeCasts_S8x8x128_S64x128)

/-- A shape cast from rank 2 to rank 3, at an index. -/
theorem cast23 {α : Type} {a b d e f : Nat} (x : (⟨2, ![a, b]⟩ : Shape).Idx → α) (h : (⟨2, ![a, b]⟩ : Shape).ShapeCasts ⟨3, ![d, e, f]⟩)
    (j : (⟨3, ![d, e, f]⟩ : Shape).Idx) (k : (⟨2, ![a, b]⟩ : Shape).Idx)
    (hk : (k 0).val * b + (k 1).val = ((j 0).val * e + (j 1).val) * f + (j 2).val) : shapeCast ⟨3, ![d, e, f]⟩ x h j = x k := by
  refine shapeCast_apply _ _ _ _ ?_
  rw [Shape.rowMajor_val_three, Shape.rowMajor_val_two]
  exact hk

/-- A shape cast from rank 3 to rank 2, at an index. -/
theorem cast32 {α : Type} {a b d e f : Nat} (x : (⟨3, ![d, e, f]⟩ : Shape).Idx → α) (h : (⟨3, ![d, e, f]⟩ : Shape).ShapeCasts ⟨2, ![a, b]⟩)
    (j : (⟨2, ![a, b]⟩ : Shape).Idx) (k : (⟨3, ![d, e, f]⟩ : Shape).Idx)
    (hk : ((k 0).val * e + (k 1).val) * f + (k 2).val = (j 0).val * b + (j 1).val) : shapeCast ⟨2, ![a, b]⟩ x h j = x k := by
  refine shapeCast_apply _ _ _ _ ?_
  rw [Shape.rowMajor_val_three, Shape.rowMajor_val_two]
  exact hk

theorem nib64_apply (q : IVec S8x128 32) (j : S64x128.Idx) (a : Fin 8) (l : Fin 128) (ha : (j 0).val / 8 = a.val) (hl : (j 1).val = l.val) :
    nib64 (F := F) q j = nibF (q (ix2 a l)) ((j 0).val % 8) := by
  have h0 : (j 0).val < 64 := (j 0).isLt
  have hb : (j 0).val % 8 < 8 := Nat.mod_lt _ (by decide)
  unfold nib64 nibF nibW
  show FloatOps.sitofp .bf16 _ = FloatOps.sitofp .bf16 _
  refine congrArg _ ?_
  refine (cast32 _ _ j (ix3 a (⟨(j 0).val % 8, hb⟩ : Fin 8) l) ?_).trans ?_
  · show (a.val * 8 + (j 0).val % 8) * 128 + l.val = (j 0).val * 128 + (j 1).val
    omega
  · have e : broadcastTo S8x8x128 (shapeCast S8x1x128 (shapeCast S8x1x128 q shapeCasts_S8x128_S8x1x128) shapeCasts_S8x1x128_S8x1x128) broadcasts_S8x1x128_S8x8x128
        (ix3 a (⟨(j 0).val % 8, hb⟩ : Fin 8) l) = q (ix2 a l) := by
      refine (broadcastTo_apply _ _ _ (ix3 a (0 : Fin 1) l) ?_).trans ?_
      · intro x; match x with | ⟨0, _⟩ => rfl | ⟨1, _⟩ => rfl | ⟨2, _⟩ => rfl
      · rw [shapeCast_self]
        refine cast23 _ _ _ _ ?_
        show a.val * 128 + l.val = (a.val * 1 + 0) * 128 + l.val
        omega
    exact congrArg (fun w => IntOp.andi w 15#32) (congrArg₂ (IntOp.shrsi .vector) e (congrArg (IntOp.muli 4#32) (iota_single_apply _ _ _ _ _ _)))

theorem slices_nib (i : Fin 4) : S64x128.Slices ![16 * i.val, 0] S16x128 := by
  revert i; decide

/-- What one store writes: rows `16 i` to `16 i + 16` of the fields, less the zero points, times the scales, in pairs of rows. -/
def pay (i : Fin 4) (zf sf : FVec F S16x128 .bf16) (n : FVec F S64x128 .bf16) : Vec F S8x2x128 .bf16 :=
  interleaveRows S8x2x128
    (shapeCast S8x1x128 (rowsOfParity 0 S8x128 (mulf (subf (extractStridedSlice S16x128 ![16 * i.val, 0] n (slices_nib i)) zf) sf) bitcasts_S16x128_w16_S8x128_w32) shapeCasts_S8x128_S8x1x128)
    (shapeCast S8x1x128 (rowsOfParity 1 S8x128 (mulf (subf (extractStridedSlice S16x128 ![16 * i.val, 0] n (slices_nib i)) zf) sf) bitcasts_S16x128_w16_S8x128_w32) shapeCasts_S8x128_S8x1x128)
    bitcasts_S8x2x128_w16_S8x1x128_w32

/-- One row of a parity, at a pair's place. -/
theorem half_apply (p : Fin 2) (v : FVec F S16x128 .bf16) (y : S8x1x128.Idx) (k : S16x128.Idx)
    (h0 : (k 0).val = 2 * (y 0).val + p.val) (h1 : (k 1).val = (y 2).val) :
    shapeCast S8x1x128 (rowsOfParity p S8x128 v bitcasts_S16x128_w16_S8x128_w32) shapeCasts_S8x128_S8x1x128 y = v k := by
  have hy : (y 1).val < 1 := (y 1).isLt
  refine (cast23 _ _ y (ix2 (y 0) (y 2)) ?_).trans ?_
  · show (y 0).val * 128 + (y 2).val = ((y 0).val * 1 + (y 1).val) * 128 + (y 2).val
    omega
  · unfold rowsOfParity
    congr 1
    funext a
    match a with
    | ⟨0, _⟩ => exact Fin.ext h0.symm
    | ⟨1, _⟩ => exact Fin.ext h1.symm

/-- Two halves in pairs of rows, at an index. -/
theorem pair_apply (lo hi : FVec F S8x1x128 .bf16) (y : S8x2x128.Idx) :
    interleaveRows S8x2x128 lo hi bitcasts_S8x2x128_w16_S8x1x128_w32 y
      = if (y 1).val = 0 then lo (ix3 (y 0) (0 : Fin 1) (y 2)) else hi (ix3 (y 0) (0 : Fin 1) (y 2)) := by
  have h1 : (y 1).val < 2 := (y 1).isLt
  have hr : S8x2x128.row y = (y 1).val := rfl
  unfold interleaveRows
  dsimp only
  rw [hr]
  by_cases h : (y 1).val = 0
  · rw [if_pos h, if_pos (by omega)]
    refine congrArg lo (funext fun a => ?_)
    match a with
    | ⟨0, _⟩ => rfl
    | ⟨1, _⟩ => exact Fin.ext (show (y 1).val / 2 = 0 by omega)
    | ⟨2, _⟩ => rfl
  · rw [if_neg h, if_neg (by omega)]
    refine congrArg hi (funext fun a => ?_)
    match a with
    | ⟨0, _⟩ => rfl
    | ⟨1, _⟩ => exact Fin.ext (show (y 1).val / 2 = 0 by omega)
    | ⟨2, _⟩ => rfl

theorem pay_apply (i : Fin 4) (zf sf : FVec F S16x128 .bf16) (n : FVec F S64x128 .bf16) (y : S8x2x128.Idx) (k : S16x128.Idx) (j : S64x128.Idx)
    (hk0 : (k 0).val = 2 * (y 0).val + (y 1).val) (hk1 : (k 1).val = (y 2).val)
    (hj0 : (j 0).val = 16 * i.val + (k 0).val) (hj1 : (j 1).val = (k 1).val) :
    pay i zf sf n y = FloatOps.mulf (FloatOps.subf (n j) (zf k)) (sf k) := by
  have h1 : (y 1).val < 2 := (y 1).isLt
  have hs : extractStridedSlice S16x128 ![16 * i.val, 0] n (slices_nib i) k = n j := by
    refine extractStridedSlice_apply _ _ _ _ _ fun a => ?_
    match a with
    | ⟨0, _⟩ => exact hj0
    | ⟨1, _⟩ => exact hj1.trans (Nat.zero_add _).symm
  unfold pay
  rw [pair_apply]
  split
  · rw [half_apply 0 _ _ k (by show (k 0).val = 2 * (y 0).val + 0; omega) hk1]
    show FloatOps.mulf (FloatOps.subf (extractStridedSlice S16x128 _ n _ k) _) _ = _
    rw [hs]
  · rw [half_apply 1 _ _ k (by show (k 0).val = 2 * (y 0).val + 1; omega) hk1]
    show FloatOps.mulf (FloatOps.subf (extractStridedSlice S16x128 _ n _ k) _) _ = _
    rw [hs]

theorem off1_eq : ∀ k : Fin k0_t1_loop.trips, k0_off1 k = ![k.val, 0] := by decide +kernel
theorem off2_eq : ∀ k : Fin k0_t1_loop.trips, k0_off2 k = ![k.val, 0, 0] := by decide +kernel
theorem off3_eq : ∀ (k : Fin k0_t1_loop.trips) (r : Fin 16), k0_off3 k (BitVec.ofNat 32 (8 * r.val)) = ![128 * k.val + 8 * r.val, 0] := by decide +kernel
theorem off4_eq : ∀ (k : Fin k0_t1_loop.trips) (r : Fin 16) (i : Fin 4), k0_off4 k (BitVec.ofNat 32 r.val) (BitVec.ofNat 32 (8 * i.val)) = ![512 * k.val + 32 * r.val + 8 * i.val, 0, 0] := by decide +kernel

theorem trips_eq : k0_t1_loop.trips = 8 := by decide +kernel

/-- The word buffer's contents after the loop: row `w`, half `p` is field `2 (w % 4) + p` of row `w / 4` of the packed weights, less
    the same field of that row's zero points, times its scale. -/
def wordAt (q : IVec S1024x128 32) (z : IVec S8x128 32) (s : FVec F S8x16x128 .bf16) : Vec F S4096x2x128 .bf16 := fun y =>
  FloatOps.mulf (FloatOps.subf
      (nibF (q (ix2 ⟨(y 0).val / 4, by have h : (y 0).val < 4096 := (y 0).isLt; omega⟩ (y 2))) (2 * ((y 0).val % 4) + (y 1).val))
      (nibF (z (ix2 ⟨(y 0).val / 512, by have h : (y 0).val < 4096 := (y 0).isLt; omega⟩ (y 2))) (2 * ((y 0).val % 4) + (y 1).val)))
    (s (ix3 ⟨(y 0).val / 512, by have h : (y 0).val < 4096 := (y 0).isLt; omega⟩
      ⟨2 * ((y 0).val % 8) + (y 1).val, by have h : (y 1).val < 2 := (y 1).isLt; omega⟩ (y 2)))

section Trip
variable (arg3 : Memref sig .tc .vmem S1024x128 .i32) (arg4 : Memref sig .tc .vmem S8x128 .i32) (arg5 : Memref sig .tc .vmem S8x16x128 .bf16)
  (X3 : BufTy.Contents (Elt F) arg3.view.ty) (X4 : BufTy.Contents (Elt F) arg4.view.ty) (X5 : BufTy.Contents (Elt F) arg5.view.ty)

/-- The store of trip `k` at block of rows `r` and quarter `i`. -/
def piece (k : Fin k0_t1_loop.trips) (r : Fin 16) (i : Fin 4) : View.Piece (Elt F) S4096x2x128 .bf16 :=
  ⟨Rect.unit (k0_off4 k (BitVec.ofNat 32 r.val) (BitVec.ofNat 32 (8 * i.val))) S8x2x128.size (k0_off4_inb k r i),
    pay i (k0_pay1 (arg4.view.readAt (Elt F) (Rect.unit (s := S8x128) (k0_off1 k) S1x128.size (k0_off1_inb k)).toLoadRect X4))
      (k0_pay2 (arg5.view.readAt (Elt F) (Rect.unit (s := S8x16x128) (k0_off2 k) S1x16x128.size (k0_off2_inb k)).toLoadRect X5))
      (nib64 (arg3.view.readAt (Elt F) (Rect.unit (s := S1024x128) (k0_off3 k (BitVec.ofNat 32 (8 * r.val))) S8x128.size (k0_off3_inb k r)).toLoadRect X3))⟩
end Trip

section Loop
variable (𝒱 : Variants) (c : Dev nD) (bd : Option 𝒱.V) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (X_arg3 : BufTy.Contents (Elt F) arg3.view.ty) (X_arg4 : BufTy.Contents (Elt F) arg4.view.ty) (X_arg5 : BufTy.Contents (Elt F) arg5.view.ty)

/-- One trip's stores, last first. -/
theorem trip_pieces (k : Fin k0_t1_loop.trips) :
    (trip_k0_t1 (F := F) 𝒱 c bd i arg2 harg2 arg3 harg3 arg4 harg4 arg5 harg5 arg6 harg6 arg7 harg7 arg8 harg8 X_arg3 X_arg4 X_arg5 k).1
      = [piece arg3 arg4 arg5 X_arg3 X_arg4 X_arg5 k 15 3, piece arg3 arg4 arg5 X_arg3 X_arg4 X_arg5 k 15 2, piece arg3 arg4 arg5 X_arg3 X_arg4 X_arg5 k 15 1, piece arg3 arg4 arg5 X_arg3 X_arg4 X_arg5 k 15 0, piece arg3 arg4 arg5 X_arg3 X_arg4 X_arg5 k 14 3, piece arg3 arg4 arg5 X_arg3 X_arg4 X_arg5 k 14 2, piece arg3 arg4 arg5 X_arg3 X_arg4 X_arg5 k 14 1, piece arg3 arg4 arg5 X_arg3 X_arg4 X_arg5 k 14 0, piece arg3 arg4 arg5 X_arg3 X_arg4 X_arg5 k 13 3, piece arg3 arg4 arg5 X_arg3 X_arg4 X_arg5 k 13 2, piece arg3 arg4 arg5 X_arg3 X_arg4 X_arg5 k 13 1, piece arg3 arg4 arg5 X_arg3 X_arg4 X_arg5 k 13 0, piece arg3 arg4 arg5 X_arg3 X_arg4 X_arg5 k 12 3, piece arg3 arg4 arg5 X_arg3 X_arg4 X_arg5 k 12 2, piece arg3 arg4 arg5 X_arg3 X_arg4 X_arg5 k 12 1, piece arg3 arg4 arg5 X_arg3 X_arg4 X_arg5 k 12 0, piece arg3 arg4 arg5 X_arg3 X_arg4 X_arg5 k 11 3, piece arg3 arg4 arg5 X_arg3 X_arg4 X_arg5 k 11 2, piece arg3 arg4 arg5 X_arg3 X_arg4 X_arg5 k 11 1, piece arg3 arg4 arg5 X_arg3 X_arg4 X_arg5 k 11 0, piece arg3 arg4 arg5 X_arg3 X_arg4 X_arg5 k 10 3, piece arg3 arg4 arg5 X_arg3 X_arg4 X_arg5 k 10 2, piece arg3 arg4 arg5 X_arg3 X_arg4 X_arg5 k 10 1, piece arg3 arg4 arg5 X_arg3 X_arg4 X_arg5 k 10 0, piece arg3 arg4 arg5 X_arg3 X_arg4 X_arg5 k 9 3, piece arg3 arg4 arg5 X_arg3 X_arg4 X_arg5 k 9 2, piece arg3 arg4 arg5 X_arg3 X_arg4 X_arg5 k 9 1, piece arg3 arg4 arg5 X_arg3 X_arg4 X_arg5 k 9 0, piece arg3 arg4 arg5 X_arg3 X_arg4 X_arg5 k 8 3, piece arg3 arg4 arg5 X_arg3 X_arg4 X_arg5 k 8 2, piece arg3 arg4 arg5 X_arg3 X_arg4 X_arg5 k 8 1, piece arg3 arg4 arg5 X_arg3 X_arg4 X_arg5 k 8 0, piece arg3 arg4 arg5 X_arg3 X_arg4 X_arg5 k 7 3, piece arg3 arg4 arg5 X_arg3 X_arg4 X_arg5 k 7 2, piece arg3 arg4 arg5 X_arg3 X_arg4 X_arg5 k 7 1, piece arg3 arg4 arg5 X_arg3 X_arg4 X_arg5 k 7 0, piece arg3 arg4 arg5 X_arg3 X_arg4 X_arg5 k 6 3, piece arg3 arg4 arg5 X_arg3 X_arg4 X_arg5 k 6 2, piece arg3 arg4 arg5 X_arg3 X_arg4 X_arg5 k 6 1, piece arg3 arg4 arg5 X_arg3 X_arg4 X_arg5 k 6 0, piece arg3 arg4 arg5 X_arg3 X_arg4 X_arg5 k 5 3, piece arg3 arg4 arg5 X_arg3 X_arg4 X_arg5 k 5 2, piece arg3 arg4 arg5 X_arg3 X_arg4 X_arg5 k 5 1, piece arg3 arg4 arg5 X_arg3 X_arg4 X_arg5 k 5 0, piece arg3 arg4 arg5 X_arg3 X_arg4 X_arg5 k 4 3, piece arg3 arg4 arg5 X_arg3 X_arg4 X_arg5 k 4 2, piece arg3 arg4 arg5 X_arg3 X_arg4 X_arg5 k 4 1, piece arg3 arg4 arg5 X_arg3 X_arg4 X_arg5 k 4 0, piece arg3 arg4 arg5 X_arg3 X_arg4 X_arg5 k 3 3, piece arg3 arg4 arg5 X_arg3 X_arg4 X_arg5 k 3 2, piece arg3 arg4 arg5 X_arg3 X_arg4 X_arg5 k 3 1, piece arg3 arg4 arg5 X_arg3 X_arg4 X_arg5 k 3 0, piece arg3 arg4 arg5 X_arg3 X_arg4 X_arg5 k 2 3, piece arg3 arg4 arg5 X_arg3 X_arg4 X_arg5 k 2 2, piece arg3 arg4 arg5 X_arg3 X_arg4 X_arg5 k 2 1, piece arg3 arg4 arg5 X_arg3 X_arg4 X_arg5 k 2 0, piece arg3 arg4 arg5 X_arg3 X_arg4 X_arg5 k 1 3, piece arg3 arg4 arg5 X_arg3 X_arg4 X_arg5 k 1 2, piece arg3 arg4 arg5 X_arg3 X_arg4 X_arg5 k 1 1, piece arg3 arg4 arg5 X_arg3 X_arg4 X_arg5 k 1 0, piece arg3 arg4 arg5 X_arg3 X_arg4 X_arg5 k 0 3, piece arg3 arg4 arg5 X_arg3 X_arg4 X_arg5 k 0 2, piece arg3 arg4 arg5 X_arg3 X_arg4 X_arg5 k 0 1, piece arg3 arg4 arg5 X_arg3 X_arg4 X_arg5 k 0 0] := by
  unfold trip_k0_t1
  rfl
end Loop

end Cert.KernelIdeal.Hand
end
-- ==== Proof.Loop.lean ====
module
public import proofs.«01_k».proof.Proof.Words
public import Idealize.ShloMosaic.Lib.Pipeline.ReadBack
public import Idealize.ShloMosaic.Lib.Pipeline.Value
public import Idealize.ShloMosaic.Lib.Pointwise.TacticCore
public import Idealize.ShloMosaic.Lib.Bf16Pair
public import Idealize.ShloMosaic.Lib.Bf16PairInverse
@[expose] public section
set_option maxRecDepth 16384
noncomputable section
namespace Cert.KernelIdeal.Hand
open Cert.KernelIdeal Cert.KernelIdeal.Gen Idealize.ShloMosaic Idealize.ShloMosaic.TcCoe Idealize.SL.Sem
variable {F : FTy → Type} [FloatOps F]

/-- The zero points' fields, sixteen rows of them: field `row % 8` of the one row of packed zero points. -/
theorem zeros_apply (v : Vec F S1x128 .i32) (k : S16x128.Idx) (l : Fin 128) (hl : (k 1).val = l.val) :
    k0_pay1 v k = nibF (v (ix2 (0 : Fin 1) l)) ((k 0).val % 8) := by
  have h0 : (k 0).val < 16 := (k 0).isLt
  have hlt : (k 0).val < 64 := by omega
  show extractStridedSlice S16x128 ![0, 0] (nib64 (broadcastTo S8x128 (shapeCast S1x128 v shapeCasts_S1x128_S1x128) broadcasts_S1x128_S8x128)) slices_S64x128_o0_0_S16x128 k = _
  refine (extractStridedSlice_apply _ _ _ _ (ix2 (⟨(k 0).val, hlt⟩ : Fin 64) l) fun a => ?_).trans ?_
  · match a with
    | ⟨0, _⟩ => exact (Nat.zero_add _).symm
    | ⟨1, _⟩ => exact hl.symm.trans (Nat.zero_add _).symm
  · refine (nib64_apply _ _ (⟨(k 0).val / 8, by omega⟩ : Fin 8) l rfl rfl).trans ?_
    refine congrArg (fun w => nibF w ((k 0).val % 8)) ?_
    rw [shapeCast_self]
    refine broadcastTo_apply _ _ _ _ fun a => ?_
    match a with
    | ⟨0, _⟩ => rfl
    | ⟨1, _⟩ => rfl

theorem scales_apply (v : Vec F S1x16x128 .bf16) (k : S16x128.Idx) (r : Fin 16) (l : Fin 128) (hr : (k 0).val = r.val) (hl : (k 1).val = l.val) :
    k0_pay2 v k = v (ix3 (0 : Fin 1) r l) := by
  refine cast32 _ _ _ _ ?_
  show (0 * 16 + r.val) * 128 + l.val = (k 0).val * 128 + (k 1).val
  omega

/-- A block read through a unit-stride rectangle, at an index. -/
theorem readAt_unit {s : Shape} {e : EltTy} {sp : Space} (m : Memref sig .tc sp s e) (X : BufTy.Contents (Elt F) m.view.ty) (off size : Fin s.rank → Nat)
    (inb : ∀ a, off a + size a ≤ s.size a) (off' : Fin s.rank → Nat) (ho : off = off') (j : (Rect.unit off size inb).shape.Idx) (k : s.Idx) (hk : ∀ a, (k a).val = off' a + (j a).val) :
    m.view.readAt (Elt F) (Rect.unit off size inb).toLoadRect X j = m.view.read (Elt F) X k := by
  subst ho
  show m.view.read (Elt F) X _ = _
  refine congrArg _ (funext fun a => Fin.ext ?_)
  rw [hk]
  exact congrArg (off a + ·) (Nat.one_mul (j a).val)

section Trip
variable (arg3 : Memref sig .tc .vmem S1024x128 .i32) (arg4 : Memref sig .tc .vmem S8x128 .i32) (arg5 : Memref sig .tc .vmem S8x16x128 .bf16)
  (X3 : BufTy.Contents (Elt F) arg3.view.ty) (X4 : BufTy.Contents (Elt F) arg4.view.ty) (X5 : BufTy.Contents (Elt F) arg5.view.ty)

/-- Every store writes the block of `wordAt` at its place. -/
theorem piece_ok (k : Fin k0_t1_loop.trips) (r : Fin 16) (i : Fin 4) (x : (piece arg3 arg4 arg5 X3 X4 X5 k r i).1.shape.Idx) :
    (piece arg3 arg4 arg5 X3 X4 X5 k r i).2 x
      = wordAt (arg3.view.read (Elt F) X3) (arg4.view.read (Elt F) X4) (arg5.view.read (Elt F) X5) ((piece arg3 arg4 arg5 X3 X4 X5 k r i).1.emb x) := by
  have hk : k.val < 8 := Nat.lt_of_lt_of_eq k.isLt trips_eq
  have hr : r.val < 16 := r.isLt
  have hi : i.val < 4 := i.isLt
  have x0 : (x 0).val < 8 := (x 0).isLt
  have x1 : (x 1).val < 2 := (x 1).isLt
  have x2 : (x 2).val < 128 := (x 2).isLt
  set y := (piece arg3 arg4 arg5 X3 X4 X5 k r i).1.emb x with hy
  have y0 : (y 0).val = 512 * k.val + 32 * r.val + 8 * i.val + (x 0).val := by
    show k0_off4 k (BitVec.ofNat 32 r.val) (BitVec.ofNat 32 (8 * i.val)) 0 + 1 * (x 0).val = _
    rw [off4_eq, Nat.one_mul]; rfl
  have y1 : (y 1).val = (x 1).val := by
    show k0_off4 k (BitVec.ofNat 32 r.val) (BitVec.ofNat 32 (8 * i.val)) 1 + 1 * (x 1).val = _
    rw [off4_eq, Nat.one_mul]; exact Nat.zero_add _
  have y2 : (y 2).val = (x 2).val := by
    show k0_off4 k (BitVec.ofNat 32 r.val) (BitVec.ofNat 32 (8 * i.val)) 2 + 1 * (x 2).val = _
    rw [off4_eq, Nat.one_mul]; exact Nat.zero_add _
  clear_value y
  let l : Fin 128 := ⟨(x 2).val, x2⟩
  let kk : S16x128.Idx := ix2 (⟨2 * (x 0).val + (x 1).val, by omega⟩ : Fin 16) l
  let jj : S64x128.Idx := ix2 (⟨16 * i.val + (2 * (x 0).val + (x 1).val), by omega⟩ : Fin 64) l
  refine (pay_apply i _ _ _ x kk jj rfl rfl rfl rfl).trans ?_
  unfold wordAt
  refine congrArg₂ FloatOps.mulf (congrArg₂ FloatOps.subf ?_ ?_) ?_
  · refine (nib64_apply _ jj (⟨2 * i.val + (x 0).val / 4, by omega⟩ : Fin 8) l
      (show (16 * i.val + (2 * (x 0).val + (x 1).val)) / 8 = 2 * i.val + (x 0).val / 4 by omega) rfl).trans ?_
    refine congrArg₂ nibF ?_ (show (16 * i.val + (2 * (x 0).val + (x 1).val)) % 8 = 2 * ((y 0).val % 4) + (y 1).val by omega)
    refine readAt_unit arg3 X3 _ _ _ _ (off3_eq k r) _ _ fun a => ?_
    match a with
    | ⟨0, _⟩ => show (y 0).val / 4 = 128 * k.val + 8 * r.val + (2 * i.val + (x 0).val / 4); omega
    | ⟨1, _⟩ => show (y 2).val = 0 + (x 2).val; omega
  · refine (zeros_apply _ kk l rfl).trans ?_
    refine congrArg₂ nibF ?_ (show (2 * (x 0).val + (x 1).val) % 8 = 2 * ((y 0).val % 4) + (y 1).val by omega)
    refine readAt_unit arg4 X4 _ _ _ _ (off1_eq k) _ _ fun a => ?_
    match a with
    | ⟨0, _⟩ => show (y 0).val / 512 = k.val + 0; omega
    | ⟨1, _⟩ => show (y 2).val = 0 + (x 2).val; omega
  · refine (scales_apply _ kk (⟨2 * (x 0).val + (x 1).val, by omega⟩ : Fin 16) l rfl rfl).trans ?_
    refine readAt_unit arg5 X5 _ _ _ _ (off2_eq k) _ _ fun a => ?_
    match a with
    | ⟨0, _⟩ => show (y 0).val / 512 = k.val + 0; omega
    | ⟨1, _⟩ => show 2 * ((y 0).val % 8) + (y 1).val = 0 + (2 * (x 0).val + (x 1).val); omega
    | ⟨2, _⟩ => show (y 2).val = 0 + (x 2).val; omega
end Trip

theorem piecesOf_append {s : Shape} {e : EltTy} (G : s.Idx → Elt F e) : ∀ (L L' : List (View.Piece (Elt F) s e)),
    View.PiecesOf G L → View.PiecesOf G L' → View.PiecesOf G (L ++ L')
  | [], _, _, h' => h'
  | _ :: L, L', h, h' => ⟨h.1, piecesOf_append G L L' h.2 h'⟩

section Loop
variable (𝒱 : Variants) (c : Dev nD) (bd : Option 𝒱.V) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (X_arg3 : BufTy.Contents (Elt F) arg3.view.ty) (X_arg4 : BufTy.Contents (Elt F) arg4.view.ty) (X_arg5 : BufTy.Contents (Elt F) arg5.view.ty)

theorem trip_ok (k : Fin k0_t1_loop.trips) :
    View.PiecesOf (wordAt (arg3.view.read (Elt F) X_arg3) (arg4.view.read (Elt F) X_arg4) (arg5.view.read (Elt F) X_arg5))
      (trip_k0_t1 (F := F) 𝒱 c bd i arg2 harg2 arg3 harg3 arg4 harg4 arg5 harg5 arg6 harg6 arg7 harg7 arg8 harg8 X_arg3 X_arg4 X_arg5 k).1 := by
  rw [trip_pieces]
  exact ⟨piece_ok arg3 arg4 arg5 X_arg3 X_arg4 X_arg5 k 15 3, piece_ok arg3 arg4 arg5 X_arg3 X_arg4 X_arg5 k 15 2, piece_ok arg3 arg4 arg5 X_arg3 X_arg4 X_arg5 k 15 1, piece_ok arg3 arg4 arg5 X_arg3 X_arg4 X_arg5 k 15 0, piece_ok arg3 arg4 arg5 X_arg3 X_arg4 X_arg5 k 14 3, piece_ok arg3 arg4 arg5 X_arg3 X_arg4 X_arg5 k 14 2, piece_ok arg3 arg4 arg5 X_arg3 X_arg4 X_arg5 k 14 1, piece_ok arg3 arg4 arg5 X_arg3 X_arg4 X_arg5 k 14 0, piece_ok arg3 arg4 arg5 X_arg3 X_arg4 X_arg5 k 13 3, piece_ok arg3 arg4 arg5 X_arg3 X_arg4 X_arg5 k 13 2, piece_ok arg3 arg4 arg5 X_arg3 X_arg4 X_arg5 k 13 1, piece_ok arg3 arg4 arg5 X_arg3 X_arg4 X_arg5 k 13 0, piece_ok arg3 arg4 arg5 X_arg3 X_arg4 X_arg5 k 12 3, piece_ok arg3 arg4 arg5 X_arg3 X_arg4 X_arg5 k 12 2, piece_ok arg3 arg4 arg5 X_arg3 X_arg4 X_arg5 k 12 1, piece_ok arg3 arg4 arg5 X_arg3 X_arg4 X_arg5 k 12 0, piece_ok arg3 arg4 arg5 X_arg3 X_arg4 X_arg5 k 11 3, piece_ok arg3 arg4 arg5 X_arg3 X_arg4 X_arg5 k 11 2, piece_ok arg3 arg4 arg5 X_arg3 X_arg4 X_arg5 k 11 1, piece_ok arg3 arg4 arg5 X_arg3 X_arg4 X_arg5 k 11 0, piece_ok arg3 arg4 arg5 X_arg3 X_arg4 X_arg5 k 10 3, piece_ok arg3 arg4 arg5 X_arg3 X_arg4 X_arg5 k 10 2, piece_ok arg3 arg4 arg5 X_arg3 X_arg4 X_arg5 k 10 1, piece_ok arg3 arg4 arg5 X_arg3 X_arg4 X_arg5 k 10 0, piece_ok arg3 arg4 arg5 X_arg3 X_arg4 X_arg5 k 9 3, piece_ok arg3 arg4 arg5 X_arg3 X_arg4 X_arg5 k 9 2, piece_ok arg3 arg4 arg5 X_arg3 X_arg4 X_arg5 k 9 1, piece_ok arg3 arg4 arg5 X_arg3 X_arg4 X_arg5 k 9 0, piece_ok arg3 arg4 arg5 X_arg3 X_arg4 X_arg5 k 8 3, piece_ok arg3 arg4 arg5 X_arg3 X_arg4 X_arg5 k 8 2, piece_ok arg3 arg4 arg5 X_arg3 X_arg4 X_arg5 k 8 1, piece_ok arg3 arg4 arg5 X_arg3 X_arg4 X_arg5 k 8 0, piece_ok arg3 arg4 arg5 X_arg3 X_arg4 X_arg5 k 7 3, piece_ok arg3 arg4 arg5 X_arg3 X_arg4 X_arg5 k 7 2, piece_ok arg3 arg4 arg5 X_arg3 X_arg4 X_arg5 k 7 1, piece_ok arg3 arg4 arg5 X_arg3 X_arg4 X_arg5 k 7 0, piece_ok arg3 arg4 arg5 X_arg3 X_arg4 X_arg5 k 6 3, piece_ok arg3 arg4 arg5 X_arg3 X_arg4 X_arg5 k 6 2, piece_ok arg3 arg4 arg5 X_arg3 X_arg4 X_arg5 k 6 1, piece_ok arg3 arg4 arg5 X_arg3 X_arg4 X_arg5 k 6 0, piece_ok arg3 arg4 arg5 X_arg3 X_arg4 X_arg5 k 5 3, piece_ok arg3 arg4 arg5 X_arg3 X_arg4 X_arg5 k 5 2, piece_ok arg3 arg4 arg5 X_arg3 X_arg4 X_arg5 k 5 1, piece_ok arg3 arg4 arg5 X_arg3 X_arg4 X_arg5 k 5 0, piece_ok arg3 arg4 arg5 X_arg3 X_arg4 X_arg5 k 4 3, piece_ok arg3 arg4 arg5 X_arg3 X_arg4 X_arg5 k 4 2, piece_ok arg3 arg4 arg5 X_arg3 X_arg4 X_arg5 k 4 1, piece_ok arg3 arg4 arg5 X_arg3 X_arg4 X_arg5 k 4 0, piece_ok arg3 arg4 arg5 X_arg3 X_arg4 X_arg5 k 3 3, piece_ok arg3 arg4 arg5 X_arg3 X_arg4 X_arg5 k 3 2, piece_ok arg3 arg4 arg5 X_arg3 X_arg4 X_arg5 k 3 1, piece_ok arg3 arg4 arg5 X_arg3 X_arg4 X_arg5 k 3 0, piece_ok arg3 arg4 arg5 X_arg3 X_arg4 X_arg5 k 2 3, piece_ok arg3 arg4 arg5 X_arg3 X_arg4 X_arg5 k 2 2, piece_ok arg3 arg4 arg5 X_arg3 X_arg4 X_arg5 k 2 1, piece_ok arg3 arg4 arg5 X_arg3 X_arg4 X_arg5 k 2 0, piece_ok arg3 arg4 arg5 X_arg3 X_arg4 X_arg5 k 1 3, piece_ok arg3 arg4 arg5 X_arg3 X_arg4 X_arg5 k 1 2, piece_ok arg3 arg4 arg5 X_arg3 X_arg4 X_arg5 k 1 1, piece_ok arg3 arg4 arg5 X_arg3 X_arg4 X_arg5 k 1 0, piece_ok arg3 arg4 arg5 X_arg3 X_arg4 X_arg5 k 0 3, piece_ok arg3 arg4 arg5 X_arg3 X_arg4 X_arg5 k 0 2, piece_ok arg3 arg4 arg5 X_arg3 X_arg4 X_arg5 k 0 1, piece_ok arg3 arg4 arg5 X_arg3 X_arg4 X_arg5 k 0 0, trivial⟩

theorem loop_ok : ∀ n : Nat, n ≤ k0_t1_loop.trips →
    View.PiecesOf (wordAt (arg3.view.read (Elt F) X_arg3) (arg4.view.read (Elt F) X_arg4) (arg5.view.read (Elt F) X_arg5)) (pb_k0_t1 (F := F) 𝒱 c bd i arg2 harg2 arg3 harg3 arg4 harg4 arg5 harg5 arg6 harg6 arg7 harg7 arg8 harg8 X_arg3 X_arg4 X_arg5 n)
  | 0, _ => trivial
  | n + 1, h => by
    rw [pb_k0_t1_succ (F := F) 𝒱 c bd i arg2 harg2 arg3 harg3 arg4 harg4 arg5 harg5 arg6 harg6 arg7 harg7 arg8 harg8 X_arg3 X_arg4 X_arg5 ⟨n, h⟩]
    exact piecesOf_append _ _ _ (trip_ok 𝒱 c bd i arg2 harg2 arg3 harg3 arg4 harg4 arg5 harg5 arg6 harg6 arg7 harg7 arg8 harg8 X_arg3 X_arg4 X_arg5 ⟨n, h⟩) (loop_ok n (Nat.le_of_succ_le h))

/-- What a load of the word buffer reads after the loop. -/
theorem words_read (B : LoadRect S4096x2x128) (j : B.shape.Idx) :
    arg7.view.readCov (pb_k0_t1 (F := F) 𝒱 c bd i arg2 harg2 arg3 harg3 arg4 harg4 arg5 harg5 arg6 harg6 arg7 harg7 arg8 harg8 X_arg3 X_arg4 X_arg5 (Scf.trips k0_t1_loop.lb k0_t1_loop.ub k0_t1_loop.st)) B j
      = wordAt (arg3.view.read (Elt F) X_arg3) (arg4.view.read (Elt F) X_arg4) (arg5.view.read (Elt F) X_arg5) (B.idx j) := by
  rw [View.readCov_eq_canon']
  exact View.canon_apply_of_pieces _ _ (loop_ok 𝒱 c bd i arg2 harg2 arg3 harg3 arg4 harg4 arg5 harg5 arg6 harg6 arg7 harg7 arg8 harg8 X_arg3 X_arg4 X_arg5 _ (Nat.le_refl _)).mem _
    (View.cover_of_tiledL (pb_k0_t1 (F := F) 𝒱 c bd i arg2 harg2 arg3 harg3 arg4 harg4 arg5 harg5 arg6 harg6 arg7 harg7 arg8 harg8 X_arg3 X_arg4 X_arg5 (Scf.trips k0_t1_loop.lb k0_t1_loop.ub k0_t1_loop.st)) S8x2x128.size (by sl_kernel_rfl) _)
end Loop

end Cert.KernelIdeal.Hand
end
-- ==== Proof.Body.lean ====
module

public import proofs.«01_k».proof.Proof.Loop
public import Idealize.ShloMosaic.Lib.Pointwise.Tactic
public import Idealize.ShloMosaic.Lib.ValueLayout
public import Idealize.ShloMosaic.Lib.Pointwise.Contract

@[expose] public section

noncomputable section

set_option maxRecDepth 65536

namespace Cert.KernelIdeal.Hand

open Cert.KernelIdeal Cert.KernelIdeal.Gen Idealize.ShloMosaic Idealize.ShloMosaic.TcCoe Idealize.SL.Sem
open scoped BigOperators

/-- The two word halves, read back as a matrix of twice the rows: row `n` is half `n % 2` of word row `n / 2`. -/
theorem interleave_raw {F : FTy → Type} [FloatOps F] (raw : Vec F S1024x2x128 .bf16) (n : Fin 2048) (l : Fin 128) :
    interleaveRows S2048x128
      (shapeCast S1024x128 (rowsOfParity 0 S1024x1x128 raw bitcasts_S1024x2x128_w16_S1024x1x128_w32) shapeCasts_S1024x1x128_S1024x128)
      (shapeCast S1024x128 (rowsOfParity 1 S1024x1x128 raw bitcasts_S1024x2x128_w16_S1024x1x128_w32) shapeCasts_S1024x1x128_S1024x128)
      bitcasts_S2048x128_w16_S1024x128_w32 (ix2 n l)
      = raw (ix3 ⟨n.val / 2, by omega⟩ ⟨n.val % 2, by omega⟩ l) := by
  have hn := n.isLt
  have key : ∀ p : Fin 2, p.val = n.val % 2 → ∀ j : S1024x128.Idx, (j 0).val = n.val / 2 → (j 1).val = l.val →
      shapeCast S1024x128 (rowsOfParity p S1024x1x128 raw bitcasts_S1024x2x128_w16_S1024x1x128_w32) shapeCasts_S1024x1x128_S1024x128 j
        = raw (ix3 ⟨n.val / 2, by omega⟩ ⟨n.val % 2, by omega⟩ l) := fun p hp j h0 h1 => by
    refine (shapeCast_apply _ _ _ (ix3 (⟨n.val / 2, by omega⟩ : Fin 1024) (0 : Fin 1) l) ?_).trans ?_
    · rw [Shape.rowMajor_val_three, Shape.rowMajor_val_two]
      show (n.val / 2 * 1 + 0) * 128 + l.val = (j 0).val * 128 + (j 1).val
      omega
    · unfold rowsOfParity
      refine congrArg raw (funext fun a => Fin.ext ?_)
      match a with
      | ⟨0, _⟩ => rfl
      | ⟨1, _⟩ => show 2 * 0 + p.val = n.val % 2; omega
      | ⟨2, _⟩ => rfl
  unfold interleaveRows
  dsimp only
  split
  · rename_i h
    have h' : n.val % 2 = 0 := h
    exact key 0 h'.symm _ rfl rfl
  · rename_i h
    have h' : ¬ n.val % 2 = 0 := h
    exact key 1 (show 1 = n.val % 2 by omega) _ rfl rfl

theorem pay147_apply (raw : Vec Ideal S1024x2x128 .bf16) (acc : Vec Ideal S1x128x128 .f32) (x : Vec Ideal S128x2048 .bf16)
    (u : Fin 1) (r l : Fin 128) :
    k0_pay147 (F := Ideal) raw acc x (ix3 u r l)
      = acc (ix3 u r l) + ∑ n : Fin 2048, x (ix2 r n) * raw (ix3 ⟨n.val / 2, by omega⟩ ⟨n.val % 2, by omega⟩ l) := by
  have hu : u = 0 := Subsingleton.elim _ _
  subst hu
  simp only [← interleave_raw raw]
  unfold k0_pay147
  generalize interleaveRows S2048x128 _ _ _ = w
  refine (ValueIdx.shapeCast_ab_1ab_apply _ _ _ r l).trans ?_
  refine congrArg₂ (· + ·) (ValueIdx.shapeCast_1ab_ab_apply acc _ r l) ?_
  simp only [shapeCast_self]
  pointwise

theorem pay149_eq (raw : Vec Ideal S1024x2x128 .bf16) (acc : Vec Ideal S1x128x128 .f32) (x : Vec Ideal S128x2048 .bf16) :
    k0_pay149 (F := Ideal) (k0_pay148 raw acc x) = k0_pay147 raw acc x := rfl
theorem pay150_eq (raw : Vec Ideal S1024x2x128 .bf16) (acc : Vec Ideal S1x128x128 .f32) (x : Vec Ideal S128x2048 .bf16) :
    k0_pay150 (F := Ideal) raw acc x = k0_pay147 raw acc x := rfl
theorem pay151_eq (raw : Vec Ideal S1024x2x128 .bf16) (acc : Vec Ideal S1x128x128 .f32) (x : Vec Ideal S128x2048 .bf16) :
    k0_pay151 (F := Ideal) raw acc x = k0_pay147 raw acc x := rfl

/-- What one grid point adds to the accumulator: plane `t` gains the product of the operand block and the weights' fields
    `2t` and `2t + 1`. -/
def inc (x0 : Vec Ideal S128x2048 .bf16) (x1 : Vec Ideal S1024x128 .i32) (x2 : Vec Ideal S8x128 .i32)
    (x3 : Vec Ideal S8x16x128 .bf16) : Vec Ideal S4x128x128 .f32 := fun y =>
  ∑ n : Fin 2048, x0 (ix2 (y 1) n)
    * wordAt (F := Ideal) x1 x2 x3 (ix3 ⟨4 * (n.val / 2) + (y 0).val, by
        have := n.isLt; have h0 : (y 0).val < 4 := (y 0).isLt; omega⟩ ⟨n.val % 2, by omega⟩ (y 2))

/-- The accumulator after one grid point, over the accumulator before it. -/
def step (x0 : Vec Ideal S128x2048 .bf16) (x1 : Vec Ideal S1024x128 .i32) (x2 : Vec Ideal S8x128 .i32)
    (x3 : Vec Ideal S8x16x128 .bf16) (xs : Vec Ideal S4x128x128 .f32) : Vec Ideal S4x128x128 .f32 := fun y =>
  (xs y : EReal) + inc x0 x1 x2 x3 y

theorem step_piece (t : Fin 4) (x0 : Vec Ideal S128x2048 .bf16) (x1 : Vec Ideal S1024x128 .i32) (x2 : Vec Ideal S8x128 .i32)
    (x3 : Vec Ideal S8x16x128 .bf16) (xs : Vec Ideal S4x128x128 .f32)
    (raw : Vec Ideal S1024x2x128 .bf16) (acc : Vec Ideal S1x128x128 .f32) (x : Vec Ideal S128x2048 .bf16)
    (e : S1x128x128.Idx → S4x128x128.Idx)
    (he : ∀ j, (e j 0).val = t.val + 1 * (j 0).val ∧ (e j 1).val = 0 + 1 * (j 1).val ∧ (e j 2).val = 0 + 1 * (j 2).val)
    (w : S1024x2x128.Idx → S4096x2x128.Idx)
    (hw : ∀ j, (w j 0).val = t.val + 4 * (j 0).val ∧ (w j 1).val = 0 + 1 * (j 1).val ∧ (w j 2).val = 0 + 1 * (j 2).val)
    (hraw : ∀ j, raw j = wordAt (F := Ideal) x1 x2 x3 (w j))
    (hacc : ∀ j, acc j = xs (e j)) (hx : x = x0) (j : S1x128x128.Idx) :
    k0_pay147 (F := Ideal) raw acc x j = step x0 x1 x2 x3 xs (e j) := by
  subst hx
  obtain ⟨u, r, l, rfl⟩ : ∃ (u : Fin 1) (r l : Fin 128), j = ix3 u r l := ⟨j 0, j 1, j 2, by
    funext a; match a with | ⟨0, _⟩ => rfl | ⟨1, _⟩ => rfl | ⟨2, _⟩ => rfl⟩
  obtain ⟨h0, h1, h2⟩ := he (ix3 u r l)
  have h0' : (e (ix3 u r l) 0).val = t.val := by
    have : u.val < 1 := u.isLt
    have h : (e (ix3 u r l) 0).val = t.val + 1 * u.val := h0
    omega
  have h1' : e (ix3 u r l) 1 = r := Fin.ext (h1.trans (by show 0 + 1 * r.val = r.val; omega))
  have h2' : e (ix3 u r l) 2 = l := Fin.ext (h2.trans (by show 0 + 1 * l.val = l.val; omega))
  refine (pay147_apply raw acc x u r l).trans ?_
  unfold step inc
  refine congrArg₂ (· + ·) (hacc _) (Finset.sum_congr rfl fun n _ => ?_)
  refine congrArg₂ (· * ·) (congrArg (fun z => x (ix2 z n)) h1'.symm) ((hraw _).trans (congrArg _ ?_))
  obtain ⟨g0, g1, g2⟩ := hw (ix3 ⟨n.val / 2, by omega⟩ ⟨n.val % 2, by omega⟩ l)
  funext a
  refine Fin.ext ?_
  match a with
  | ⟨0, _⟩ => refine g0.trans ?_; show t.val + 4 * (n.val / 2) = 4 * (n.val / 2) + (e (ix3 u r l) 0).val; omega
  | ⟨1, _⟩ => refine g1.trans ?_; show 0 + 1 * (n.val % 2) = n.val % 2; omega
  | ⟨2, _⟩ => refine g2.trans ?_; rw [show ((ix3 _ _ (e (ix3 u r l) 2) : S4096x2x128.Idx) ⟨2, by decide⟩) = e (ix3 u r l) 2 from rfl, h2']; show 0 + 1 * l.val = l.val; omega

/-- A load of the whole operand block reads the block. -/
theorem load_x0 (arg2 : Memref sig .tc .vmem S128x2048 .bf16) (harg2 : arg2.IsWhole) (x0 : Vec Ideal S128x2048 .bf16) :
    View.readAt (Elt Ideal) arg2.view (Rect.unit ![0, 0] S128x2048.size inb_S128x2048_S128x2048_0_0).toLoadRect (harg2.unread x0) = x0 := by
  funext j
  refine (View.readAt_apply ..).trans ?_
  rw [harg2.read_unread]
  refine congrArg x0 (funext fun a => Fin.ext ?_)
  match a with
  | ⟨0, _⟩ => show 0 + 1 * (j 0).val = (j 0).val; omega
  | ⟨1, _⟩ => show 0 + 1 * (j 1).val = (j 1).val; omega

/-- A load of part of the accumulator reads that part. -/
theorem load_acc (arg8 : Memref sig .tc .vmem S4x128x128 .f32) (harg8 : arg8.IsWhole) (xs : Vec Ideal S4x128x128 .f32)
    (B : LoadRect S4x128x128) (j : B.shape.Idx) :
    View.readAt (Elt Ideal) arg8.view B (harg8.unread xs) j = xs (B.idx j) :=
  (View.readAt_apply ..).trans (congrFun (harg8.read_unread xs) _)

/-- A load of the word scratch after the loop reads the words of the blocks. -/
theorem load_words (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (x1 : Vec Ideal S1024x128 .i32) (x2 : Vec Ideal S8x128 .i32) (x3 : Vec Ideal S8x16x128 .bf16)
    (B : LoadRect S4096x2x128) (j : B.shape.Idx) :
    arg7.view.readCov (pb_k0_t1 (F := Ideal) Variants.none c none i arg2 harg2 arg3 harg3 arg4 harg4 arg5 harg5 arg6 harg6 arg7 harg7 arg8 harg8 (harg3.unread x1) (harg4.unread x2) (harg5.unread x3)
        (Scf.trips k0_t1_loop.lb k0_t1_loop.ub k0_t1_loop.st)) B j = wordAt (F := Ideal) x1 x2 x3 (B.idx j) := by
  refine (words_read ..).trans ?_
  rw [harg3.read_unread, harg4.read_unread, harg5.read_unread]

theorem accA_0 (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (x0 : Vec Ideal S128x2048 .bf16) (x1 : Vec Ideal S1024x128 .i32) (x2 : Vec Ideal S8x128 .i32) (x3 : Vec Ideal S8x16x128 .bf16) :
    arg8.view.readCov (kernelRun0_A.sl.HS1_1 (F := Ideal)) (Rect.unit (s := S4x128x128) ![0, 0, 0] S1x128x128.size inb_S4x128x128_S1x128x128_0_0_0).toLoadRect
      = fun j => k0_pay145 (F := Ideal) ((Rect.unit (s := S4x128x128) ![0, 0, 0] S1x128x128.size inb_S4x128x128_S1x128x128_0_0_0).toLoadRect.idx j) := by
  unfold kernelRun0_A.sl.HS1_1
  exact View.readCov_fill _ _ _ _ _ (fun a => by match a with | ⟨0, _⟩ => rfl | ⟨1, _⟩ => rfl | ⟨2, _⟩ => rfl)

theorem accA_1 (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (x0 : Vec Ideal S128x2048 .bf16) (x1 : Vec Ideal S1024x128 .i32) (x2 : Vec Ideal S8x128 .i32) (x3 : Vec Ideal S8x16x128 .bf16) :
    arg8.view.readCov (kernelRun0_A.sl.HS1_2 (F := Ideal) c i arg2 harg2 arg3 harg3 arg4 harg4 arg5 harg5 arg6 harg6 arg7 harg7 arg8 harg8 x0 x1 x2 x3) (Rect.unit (s := S4x128x128) ![1, 0, 0] S1x128x128.size inb_S4x128x128_S1x128x128_1_0_0).toLoadRect
      = fun j => k0_pay145 (F := Ideal) ((Rect.unit (s := S4x128x128) ![1, 0, 0] S1x128x128.size inb_S4x128x128_S1x128x128_1_0_0).toLoadRect.idx j) := by
  unfold kernelRun0_A.sl.HS1_2
  refine (View.readCov_skip _ _ _ _ _ (by sl_kernel_rfl)).trans ?_
  unfold kernelRun0_A.sl.HS1_1
  exact View.readCov_fill _ _ _ _ _ (fun a => by match a with | ⟨0, _⟩ => rfl | ⟨1, _⟩ => rfl | ⟨2, _⟩ => rfl)

theorem accA_2 (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (x0 : Vec Ideal S128x2048 .bf16) (x1 : Vec Ideal S1024x128 .i32) (x2 : Vec Ideal S8x128 .i32) (x3 : Vec Ideal S8x16x128 .bf16) :
    arg8.view.readCov (kernelRun0_A.sl.HS1_3 (F := Ideal) c i arg2 harg2 arg3 harg3 arg4 harg4 arg5 harg5 arg6 harg6 arg7 harg7 arg8 harg8 x0 x1 x2 x3) (Rect.unit (s := S4x128x128) ![2, 0, 0] S1x128x128.size inb_S4x128x128_S1x128x128_2_0_0).toLoadRect
      = fun j => k0_pay145 (F := Ideal) ((Rect.unit (s := S4x128x128) ![2, 0, 0] S1x128x128.size inb_S4x128x128_S1x128x128_2_0_0).toLoadRect.idx j) := by
  unfold kernelRun0_A.sl.HS1_3
  refine (View.readCov_skip _ _ _ _ _ (by sl_kernel_rfl)).trans ?_
  unfold kernelRun0_A.sl.HS1_2
  refine (View.readCov_skip _ _ _ _ _ (by sl_kernel_rfl)).trans ?_
  unfold kernelRun0_A.sl.HS1_1
  exact View.readCov_fill _ _ _ _ _ (fun a => by match a with | ⟨0, _⟩ => rfl | ⟨1, _⟩ => rfl | ⟨2, _⟩ => rfl)

theorem accA_3 (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (x0 : Vec Ideal S128x2048 .bf16) (x1 : Vec Ideal S1024x128 .i32) (x2 : Vec Ideal S8x128 .i32) (x3 : Vec Ideal S8x16x128 .bf16) :
    arg8.view.readCov (kernelRun0_A.sl.HS1_4 (F := Ideal) c i arg2 harg2 arg3 harg3 arg4 harg4 arg5 harg5 arg6 harg6 arg7 harg7 arg8 harg8 x0 x1 x2 x3) (Rect.unit (s := S4x128x128) ![3, 0, 0] S1x128x128.size inb_S4x128x128_S1x128x128_3_0_0).toLoadRect
      = fun j => k0_pay145 (F := Ideal) ((Rect.unit (s := S4x128x128) ![3, 0, 0] S1x128x128.size inb_S4x128x128_S1x128x128_3_0_0).toLoadRect.idx j) := by
  unfold kernelRun0_A.sl.HS1_4
  refine (View.readCov_skip _ _ _ _ _ (by sl_kernel_rfl)).trans ?_
  unfold kernelRun0_A.sl.HS1_3
  refine (View.readCov_skip _ _ _ _ _ (by sl_kernel_rfl)).trans ?_
  unfold kernelRun0_A.sl.HS1_2
  refine (View.readCov_skip _ _ _ _ _ (by sl_kernel_rfl)).trans ?_
  unfold kernelRun0_A.sl.HS1_1
  exact View.readCov_fill _ _ _ _ _ (fun a => by match a with | ⟨0, _⟩ => rfl | ⟨1, _⟩ => rfl | ⟨2, _⟩ => rfl)

theorem pieces_A (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (hc0 : cond0_0 i) (hc1 : ¬ cond0_1 i) (x0 : Vec Ideal S128x2048 .bf16) (x1 : Vec Ideal S1024x128 .i32) (x2 : Vec Ideal S8x128 .i32) (x3 : Vec Ideal S8x16x128 .bf16) :
    View.PiecesOf (step x0 x1 x2 x3 (k0_pay145 (F := Ideal))) ((kernelRun0_A (F := Ideal) c i arg2 harg2 arg3 harg3 arg4 harg4 arg5 harg5 arg6 harg6 arg7 harg7 arg8 harg8 hc0 hc1 x0 x1 x2 x3).2.1.take 4) :=
  ⟨step_piece 3 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![3, 0, 0], size := S1024x2x128.size, stride := ![4, 1, 1], inb := inb_S4096x2x128_S1024x2x128_3_0_0_s_4_1_1 } j)
      (congrFun (accA_3 c i arg2 harg2 arg3 harg3 arg4 harg4 arg5 harg5 arg6 harg6 arg7 harg7 arg8 harg8 x0 x1 x2 x3)) (load_x0 arg2 harg2 x0),
   step_piece 2 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![2, 0, 0], size := S1024x2x128.size, stride := ![4, 1, 1], inb := inb_S4096x2x128_S1024x2x128_2_0_0_s_4_1_1 } j)
      (congrFun (accA_2 c i arg2 harg2 arg3 harg3 arg4 harg4 arg5 harg5 arg6 harg6 arg7 harg7 arg8 harg8 x0 x1 x2 x3)) (load_x0 arg2 harg2 x0),
   step_piece 1 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![1, 0, 0], size := S1024x2x128.size, stride := ![4, 1, 1], inb := inb_S4096x2x128_S1024x2x128_1_0_0_s_4_1_1 } j)
      (congrFun (accA_1 c i arg2 harg2 arg3 harg3 arg4 harg4 arg5 harg5 arg6 harg6 arg7 harg7 arg8 harg8 x0 x1 x2 x3)) (load_x0 arg2 harg2 x0),
   step_piece 0 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![0, 0, 0], size := S1024x2x128.size, stride := ![4, 1, 1], inb := inb_S4096x2x128_S1024x2x128_0_0_0_s_4_1_1 } j)
      (congrFun (accA_0 c i arg2 harg2 arg3 harg3 arg4 harg4 arg5 harg5 arg6 harg6 arg7 harg7 arg8 harg8 x0 x1 x2 x3)) (load_x0 arg2 harg2 x0), trivial⟩

theorem pieces_B (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (hc0 : ¬ cond0_0 i) (hc1 : ¬ cond0_1 i) (x0 : Vec Ideal S128x2048 .bf16) (x1 : Vec Ideal S1024x128 .i32) (x2 : Vec Ideal S8x128 .i32) (x3 : Vec Ideal S8x16x128 .bf16) (xs1 : Vec Ideal S4x128x128 .f32) :
    View.PiecesOf (step x0 x1 x2 x3 xs1) (kernelRun0_B (F := Ideal) c i arg2 harg2 arg3 harg3 arg4 harg4 arg5 harg5 arg6 harg6 arg7 harg7 arg8 harg8 hc0 hc1 x0 x1 x2 x3 xs1).2.1 :=
  ⟨step_piece 3 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![3, 0, 0], size := S1024x2x128.size, stride := ![4, 1, 1], inb := inb_S4096x2x128_S1024x2x128_3_0_0_s_4_1_1 } j)
      (fun j => load_acc arg8 harg8 xs1 (Rect.unit (s := S4x128x128) ![3, 0, 0] S1x128x128.size inb_S4x128x128_S1x128x128_3_0_0).toLoadRect j) (load_x0 arg2 harg2 x0),
   step_piece 2 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![2, 0, 0], size := S1024x2x128.size, stride := ![4, 1, 1], inb := inb_S4096x2x128_S1024x2x128_2_0_0_s_4_1_1 } j)
      (fun j => load_acc arg8 harg8 xs1 (Rect.unit (s := S4x128x128) ![2, 0, 0] S1x128x128.size inb_S4x128x128_S1x128x128_2_0_0).toLoadRect j) (load_x0 arg2 harg2 x0),
   step_piece 1 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![1, 0, 0], size := S1024x2x128.size, stride := ![4, 1, 1], inb := inb_S4096x2x128_S1024x2x128_1_0_0_s_4_1_1 } j)
      (fun j => load_acc arg8 harg8 xs1 (Rect.unit (s := S4x128x128) ![1, 0, 0] S1x128x128.size inb_S4x128x128_S1x128x128_1_0_0).toLoadRect j) (load_x0 arg2 harg2 x0),
   step_piece 0 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![0, 0, 0], size := S1024x2x128.size, stride := ![4, 1, 1], inb := inb_S4096x2x128_S1024x2x128_0_0_0_s_4_1_1 } j)
      (fun j => load_acc arg8 harg8 xs1 (Rect.unit (s := S4x128x128) ![0, 0, 0] S1x128x128.size inb_S4x128x128_S1x128x128_0_0_0).toLoadRect j) (load_x0 arg2 harg2 x0), trivial⟩

theorem pieces_C (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (hc0 : ¬ cond0_0 i) (hc1 : cond0_1 i) (x0 : Vec Ideal S128x2048 .bf16) (x1 : Vec Ideal S1024x128 .i32) (x2 : Vec Ideal S8x128 .i32) (x3 : Vec Ideal S8x16x128 .bf16) (xs1 : Vec Ideal S4x128x128 .f32) :
    View.PiecesOf (step x0 x1 x2 x3 xs1) (kernelRun0_C (F := Ideal) c i arg2 harg2 arg3 harg3 arg4 harg4 arg5 harg5 arg6 harg6 arg7 harg7 arg8 harg8 hc0 hc1 x0 x1 x2 x3 xs1).2.1 :=
  ⟨step_piece 3 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![3, 0, 0], size := S1024x2x128.size, stride := ![4, 1, 1], inb := inb_S4096x2x128_S1024x2x128_3_0_0_s_4_1_1 } j)
      (fun j => load_acc arg8 harg8 xs1 (Rect.unit (s := S4x128x128) ![3, 0, 0] S1x128x128.size inb_S4x128x128_S1x128x128_3_0_0).toLoadRect j) (load_x0 arg2 harg2 x0),
   step_piece 2 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![2, 0, 0], size := S1024x2x128.size, stride := ![4, 1, 1], inb := inb_S4096x2x128_S1024x2x128_2_0_0_s_4_1_1 } j)
      (fun j => load_acc arg8 harg8 xs1 (Rect.unit (s := S4x128x128) ![2, 0, 0] S1x128x128.size inb_S4x128x128_S1x128x128_2_0_0).toLoadRect j) (load_x0 arg2 harg2 x0),
   step_piece 1 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![1, 0, 0], size := S1024x2x128.size, stride := ![4, 1, 1], inb := inb_S4096x2x128_S1024x2x128_1_0_0_s_4_1_1 } j)
      (fun j => load_acc arg8 harg8 xs1 (Rect.unit (s := S4x128x128) ![1, 0, 0] S1x128x128.size inb_S4x128x128_S1x128x128_1_0_0).toLoadRect j) (load_x0 arg2 harg2 x0),
   step_piece 0 x0 x1 x2 x3 _ _ _ _ _ (fun _ => ⟨rfl, rfl, rfl⟩) _ (fun j => ⟨rfl, rfl, rfl⟩)
      (fun j => load_words c i arg2 harg2 arg3 harg3 arg4 harg4 arg5 harg5 arg6 harg6 arg7 harg7 arg8 harg8 x1 x2 x3 { off := ![0, 0, 0], size := S1024x2x128.size, stride := ![4, 1, 1], inb := inb_S4096x2x128_S1024x2x128_0_0_0_s_4_1_1 } j)
      (fun j => load_acc arg8 harg8 xs1 (Rect.unit (s := S4x128x128) ![0, 0, 0] S1x128x128.size inb_S4x128x128_S1x128x128_0_0_0).toLoadRect j) (load_x0 arg2 harg2 x0), trivial⟩

theorem sout_B (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (hc0 : ¬ cond0_0 i) (hc1 : ¬ cond0_1 i) (x0 : Vec Ideal S128x2048 .bf16) (x1 : Vec Ideal S1024x128 .i32) (x2 : Vec Ideal S8x128 .i32) (x3 : Vec Ideal S8x16x128 .bf16) (xs1 : Vec Ideal S4x128x128 .f32) :
    sout0_B_1 (F := Ideal) c i arg2 harg2 arg3 harg3 arg4 harg4 arg5 harg5 arg6 harg6 arg7 harg7 arg8 harg8 hc0 hc1 x0 x1 x2 x3 xs1 = step x0 x1 x2 x3 xs1 := by
  unfold sout0_B_1
  rw [View.read_writes_junk_eq_canon]
  funext y
  exact View.canon_apply_of_pieces _ _ (pieces_B c i arg2 harg2 arg3 harg3 arg4 harg4 arg5 harg5 arg6 harg6 arg7 harg7 arg8 harg8 hc0 hc1 x0 x1 x2 x3 xs1).mem y
    (View.cover_of_tiledL (kernelRun0_B (F := Ideal) c i arg2 harg2 arg3 harg3 arg4 harg4 arg5 harg5 arg6 harg6 arg7 harg7 arg8 harg8 hc0 hc1 x0 x1 x2 x3 xs1).2.1 S1x128x128.size (by sl_kernel_rfl) y)

theorem sout_C (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (hc0 : ¬ cond0_0 i) (hc1 : cond0_1 i) (x0 : Vec Ideal S128x2048 .bf16) (x1 : Vec Ideal S1024x128 .i32) (x2 : Vec Ideal S8x128 .i32) (x3 : Vec Ideal S8x16x128 .bf16) (xs1 : Vec Ideal S4x128x128 .f32) :
    sout0_C_1 (F := Ideal) c i arg2 harg2 arg3 harg3 arg4 harg4 arg5 harg5 arg6 harg6 arg7 harg7 arg8 harg8 hc0 hc1 x0 x1 x2 x3 xs1 = step x0 x1 x2 x3 xs1 := by
  unfold sout0_C_1
  rw [View.read_writes_junk_eq_canon]
  funext y
  exact View.canon_apply_of_pieces _ _ (pieces_C c i arg2 harg2 arg3 harg3 arg4 harg4 arg5 harg5 arg6 harg6 arg7 harg7 arg8 harg8 hc0 hc1 x0 x1 x2 x3 xs1).mem y
    (View.cover_of_tiledL (kernelRun0_C (F := Ideal) c i arg2 harg2 arg3 harg3 arg4 harg4 arg5 harg5 arg6 harg6 arg7 harg7 arg8 harg8 hc0 hc1 x0 x1 x2 x3 xs1).2.1 S1x128x128.size (by sl_kernel_rfl) y)

theorem sout_A (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (hc0 : cond0_0 i) (hc1 : ¬ cond0_1 i) (x0 : Vec Ideal S128x2048 .bf16) (x1 : Vec Ideal S1024x128 .i32) (x2 : Vec Ideal S8x128 .i32) (x3 : Vec Ideal S8x16x128 .bf16)  :
    sout0_A_1 (F := Ideal) c i arg2 harg2 arg3 harg3 arg4 harg4 arg5 harg5 arg6 harg6 arg7 harg7 arg8 harg8 hc0 hc1 x0 x1 x2 x3 = step x0 x1 x2 x3 (k0_pay145 (F := Ideal)) := by
  unfold sout0_A_1
  rw [View.read_writes_junk_eq_canon]
  funext y
  rw [← List.take_append_drop 4 (kernelRun0_A (F := Ideal) c i arg2 harg2 arg3 harg3 arg4 harg4 arg5 harg5 arg6 harg6 arg7 harg7 arg8 harg8 hc0 hc1 x0 x1 x2 x3).2.1]
  exact View.canon_append_of_piecesOf _ _ _ (pieces_A c i arg2 harg2 arg3 harg3 arg4 harg4 arg5 harg5 arg6 harg6 arg7 harg7 arg8 harg8 hc0 hc1 x0 x1 x2 x3) y
    (View.cover_of_tiledL ((kernelRun0_A (F := Ideal) c i arg2 harg2 arg3 harg3 arg4 harg4 arg5 harg5 arg6 harg6 arg7 harg7 arg8 harg8 hc0 hc1 x0 x1 x2 x3).2.1.take 4) S1x128x128.size (by sl_kernel_rfl) y)

theorem out_C (c : Dev nD) (i : grid0.Coords) (arg2 : Memref sig .tc .vmem S128x2048 .bf16) (harg2 : arg2.IsWhole) (arg3 : Memref sig .tc .vmem S1024x128 .i32) (harg3 : arg3.IsWhole) (arg4 : Memref sig .tc .vmem S8x128 .i32) (harg4 : arg4.IsWhole) (arg5 : Memref sig .tc .vmem S8x16x128 .bf16) (harg5 : arg5.IsWhole) (arg6 : Memref sig .tc .vmem S4x128x128 .bf16) (harg6 : arg6.IsWhole) (arg7 : Memref sig .tc .vmem S4096x2x128 .bf16) (harg7 : arg7.IsWhole) (arg8 : Memref sig .tc .vmem S4x128x128 .f32) (harg8 : arg8.IsWhole) (hc0 : ¬ cond0_0 i) (hc1 : cond0_1 i) (x0 : Vec Ideal S128x2048 .bf16) (x1 : Vec Ideal S1024x128 .i32) (x2 : Vec Ideal S8x128 .i32) (x3 : Vec Ideal S8x16x128 .bf16) (xs1 : Vec Ideal S4x128x128 .f32) :
    out0_C_4 (F := Ideal) c i arg2 harg2 arg3 harg3 arg4 harg4 arg5 harg5 arg6 harg6 arg7 harg7 arg8 harg8 hc0 hc1 x0 x1 x2 x3 xs1 = step x0 x1 x2 x3 xs1 := by
  have hl : (kernelRun0_C (F := Ideal) c i arg2 harg2 arg3 harg3 arg4 harg4 arg5 harg5 arg6 harg6 arg7 harg7 arg8 harg8 hc0 hc1 x0 x1 x2 x3 xs1).1
      = [⟨Rect.unit (s := S4x128x128) ![0, 0, 0] S4x128x128.size inb_S4x128x128_S4x128x128_0_0_0,
          k0_pay152 (kernelRun0_C.sl.v51 (F := Ideal) c i arg2 harg2 arg3 harg3 arg4 harg4 arg5 harg5 arg6 harg6 arg7 harg7 arg8 harg8 x0 x1 x2 x3 xs1)⟩] := rfl
  unfold out0_C_4
  rw [View.read_writes_junk_eq_canon, hl, View.canon_unit_zero (by funext a; match a with | ⟨0, _⟩ => rfl | ⟨1, _⟩ => rfl | ⟨2, _⟩ => rfl)]
  funext y
  show kernelRun0_C.sl.v51 (F := Ideal) c i arg2 harg2 arg3 harg3 arg4 harg4 arg5 harg5 arg6 harg6 arg7 harg7 arg8 harg8 x0 x1 x2 x3 xs1 y = _
  unfold kernelRun0_C.sl.v51
  rw [View.readCov_eq_canon']
  refine (View.canon_apply_of_pieces _ _ (pieces_C c i arg2 harg2 arg3 harg3 arg4 harg4 arg5 harg5 arg6 harg6 arg7 harg7 arg8 harg8 hc0 hc1 x0 x1 x2 x3 xs1).mem _
    (View.cover_of_tiledL (kernelRun0_C (F := Ideal) c i arg2 harg2 arg3 harg3 arg4 harg4 arg5 harg5 arg6 harg6 arg7 harg7 arg8 harg8 hc0 hc1 x0 x1 x2 x3 xs1).2.1 S1x128x128.size (by sl_kernel_rfl) _)).trans (congrArg _ (funext fun a => Fin.ext ?_))
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem zero_acc (y : S4x128x128.Idx) : k0_pay145 (F := Ideal) y = 0 := by
  unfold k0_pay145
  simp only [shapeCast_self]
  pointwise

end Cert.KernelIdeal.Hand
-- ==== Proof.Fold.lean ====
module

public import proofs.«01_k».proof.Proof.Body
public import Idealize.ShloMosaic.Lib.Pipeline.Value

@[expose] public section

set_option maxRecDepth 65536
noncomputable section

namespace Cert.KernelIdeal.Hand

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- What grid point `n` adds to the accumulator (nothing past the last point). -/
def incN (c : Dev nD) (n : ℕ) : Vec Ideal S4x128x128 .f32 := fun y =>
  if h : n < cfg0.N then inc (iblk m c 0 ⟨n, h⟩) (iblk m c 1 ⟨n, h⟩) (iblk m c 2 ⟨n, h⟩) (iblk m c 3 ⟨n, h⟩) y else (0 : EReal)

theorem incN_eq (c : Dev nD) (t : Fin cfg0.N) (y : S4x128x128.Idx) :
    incN m c t.val y = inc (iblk m c 0 t) (iblk m c 1 t) (iblk m c 2 t) (iblk m c 3 t) y := dif_pos t.isLt

theorem snd_A (c : Dev nD) (t : Fin cfg0.N) (h0 : t.val % 8 = 0) (h1 : ¬t.val % 8 = 7) :
    (outsAt0 m c t.val t.isLt).2 = step (iblk m c 0 t) (iblk m c 1 t) (iblk m c 2 t) (iblk m c 3 t) (k0_pay145 (F := Ideal)) := by
  rw [outsAt0_A m c t h0 h1]
  dsimp only
  have h := (sout_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h))
      (iblk m c 0 t) (iblk m c 1 t) (iblk m c 2 t) (iblk m c 3 t))
  exact h

theorem snd_B (c : Dev nD) (t : Fin cfg0.N) (h0 : ¬t.val % 8 = 0) (h1 : ¬t.val % 8 = 7) :
    (outsAt0 m c t.val t.isLt).2 = step (iblk m c 0 t) (iblk m c 1 t) (iblk m c 2 t) (iblk m c 3 t) (outsAt0 m c (t.val - 1) (Nat.lt_of_le_of_lt (Nat.sub_le _ _) t.isLt)).2 :=
  (congrArg Prod.snd (outsAt0_B m c t h0 h1)).trans
    (sout_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h))
      (iblk m c 0 t) (iblk m c 1 t) (iblk m c 2 t) (iblk m c 3 t) (outsAt0 m c (t.val - 1) (Nat.lt_of_le_of_lt (Nat.sub_le _ _) t.isLt)).2)

theorem snd_C (c : Dev nD) (t : Fin cfg0.N) (h0 : ¬t.val % 8 = 0) (h1 : t.val % 8 = 7) :
    (outsAt0 m c t.val t.isLt).2 = step (iblk m c 0 t) (iblk m c 1 t) (iblk m c 2 t) (iblk m c 3 t) (outsAt0 m c (t.val - 1) (Nat.lt_of_le_of_lt (Nat.sub_le _ _) t.isLt)).2 :=
  (congrArg Prod.snd (outsAt0_C m c t h0 h1)).trans
    (sout_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2)

theorem fst_C (c : Dev nD) (t : Fin cfg0.N) (h0 : ¬t.val % 8 = 0) (h1 : t.val % 8 = 7) :
    (outsAt0 m c t.val t.isLt).1 = step (iblk m c 0 t) (iblk m c 1 t) (iblk m c 2 t) (iblk m c 3 t) (outsAt0 m c (t.val - 1) (Nat.lt_of_le_of_lt (Nat.sub_le _ _) t.isLt)).2 :=
  (congrArg Prod.fst (outsAt0_C m c t h0 h1)).trans
    (out_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1)
      (iblk m c 0 t) (iblk m c 1 t) (iblk m c 2 t) (iblk m c 3 t) (outsAt0 m c (t.val - 1) (Nat.lt_of_le_of_lt (Nat.sub_le _ _) t.isLt)).2)

theorem step_at (c : Dev nD) (t : Fin cfg0.N) (xs : Vec Ideal S4x128x128 .f32) (y : S4x128x128.Idx) :
    step (iblk m c 0 t) (iblk m c 1 t) (iblk m c 2 t) (iblk m c 3 t) xs y = (xs y : EReal) + incN m c t.val y := by
  rw [incN_eq]; rfl

/-- The accumulator after point `t`: the sum of what the points of its run, up to it, add. -/
theorem acc_at (c : Dev nD) : ∀ (n : ℕ) (t : Fin cfg0.N) (_ : t.val = n) (y : S4x128x128.Idx),
    (outsAt0 m c t.val t.isLt).2 y = ∑ k ∈ Finset.range (n % 8 + 1), (incN m c (8 * (n / 8) + k) y : EReal) := fun n => by
  induction n with
  | zero =>
    intro t ht y
    rw [snd_A m c t (by omega) (by omega), step_at, zero_acc, zero_add, ht]
    show _ = ∑ k ∈ Finset.range 1, (incN m c (8 * 0 + k) y : EReal)
    rw [Finset.sum_range_one]
  | succ n ih =>
    intro t ht y
    by_cases h0 : (n + 1) % 8 = 0
    · rw [snd_A m c t (by omega) (by omega), step_at, zero_acc, zero_add, ht, h0, Finset.sum_range_one]
      refine congrArg (fun k => incN m c k y) ?_
      omega
    · have hs : (outsAt0 m c t.val t.isLt).2 y = ((outsAt0 m c (t.val - 1) (Nat.lt_of_le_of_lt (Nat.sub_le _ _) t.isLt)).2 y : EReal) + incN m c t.val y := by
        by_cases h1 : (n + 1) % 8 = 7
        · rw [snd_C m c t (by omega) (by omega), step_at]
        · rw [snd_B m c t (by omega) (by omega), step_at]
      have hp : ((outsAt0 m c (t.val - 1) (Nat.lt_of_le_of_lt (Nat.sub_le _ _) t.isLt)).2 y : EReal) = _ := ih ⟨t.val - 1, by have := t.isLt; omega⟩ (by show t.val - 1 = n; omega) y
      rw [hs, hp, show (n + 1) % 8 = n % 8 + 1 by omega, show (n + 1) / 8 = n / 8 by omega, Finset.sum_range_succ _ (n % 8 + 1),
        show 8 * (n / 8) + (n % 8 + 1) = t.val by omega]

/-- What the last point of a run leaves in its output block: the sum over the run. -/
theorem out_at (c : Dev nD) (t : Fin cfg0.N) (h7 : t.val % 8 = 7) (y : S4x128x128.Idx) :
    ((outsAt0 m c t.val t.isLt).1 y : EReal) = ∑ k ∈ Finset.range 8, (incN m c (8 * (t.val / 8) + k) y : EReal) := by
  have h := acc_at m c t.val t rfl y
  rw [h7] at h
  refine Eq.trans ?_ h
  rw [fst_C m c t (by omega) h7, snd_C m c t (by omega) h7]

/-- The array the launch leaves: at each index, the sum over the eight points of the run that writes its block. -/
def G (c : Dev nD) : Buf (Elt Ideal) ((c : Thread nD τ).loc main_v21) := fun i =>
  show EReal from ∑ k ∈ Finset.range 8, (incN m c (8 * ((i 2).val / 128) + k)
    (ix3 (i 0 : Fin 4) (i 1 : Fin 128) (⟨(i 2).val % 128, Nat.mod_lt _ (by decide)⟩ : Fin 128)) : EReal)

/-- The printed index map, decided over the grid: output window 4's block indices stay in the box, and the block number
    read off them is the point's (`t / 8`). -/
theorem idx_facts4 : ∀ t : Fin cfg0.N, 0 ≤ win0_4.index t (0 : Fin 3) ∧ win0_4.index t (0 : Fin 3) ≤ 0
    ∧ 0 ≤ win0_4.index t (1 : Fin 3) ∧ win0_4.index t (1 : Fin 3) ≤ 0
    ∧ 0 ≤ win0_4.index t (2 : Fin 3) ∧ win0_4.index t (2 : Fin 3) ≤ 10
    ∧ 11 * (win0_4.index t (0 : Fin 3) - 0) + 11 * (win0_4.index t (1 : Fin 3) - 0) + 1 * (win0_4.index t (2 : Fin 3) - 0) = t.val / 8 :=
  (by decide +kernel : ∀ t : Fin grid0.N, _)

/-- Every block of the box is SOME flushing point's: `onto4Pt`, the point that writes back the block at place `q` of the box (the last point of its run). -/
abbrev onto4Pt (q0 : Fin 1) (q1 : Fin 1) (q2 : Fin 11) : Fin grid0.N :=
  ⟨8 * (11 * q0.val + 11 * q1.val + 1 * q2.val) + 7, lt_of_lt_of_eq (by omega) N_0.symm⟩
theorem idx_onto4 : ∀ (q0 : Fin 1) (q1 : Fin 1) (q2 : Fin 11), ∃ t : Fin cfg0.N, (cfg0.win 4).flush t = true ∧ win0_4.index t = ![q0.val + 0, q1.val + 0, q2.val + 0] :=
  fun q0 q1 q2 => ⟨onto4Pt q0 q1 q2, (by decide +kernel : ∀ (q0 : Fin 1) (q1 : Fin 1) (q2 : Fin 11), win0_4.flush (onto4Pt q0 q1 q2) = true ∧ win0_4.index (onto4Pt q0 q1 q2) = ![q0.val + 0, q1.val + 0, q2.val + 0]) q0 q1 q2⟩

theorem flushed4_eq (c : Dev nD) (t : Fin cfg0.N) (hf : (cfg0.win 4).flush t = true) :
    (dats m 0 c).flushed 4 t = ((cfg0.win 4).blk t).view.read (Elt Ideal) (G m c) := by
  show (cfg0.win 4).cut (grid0.coords t) ((dats m 0 c).after 4 t) = _
  rw [after0_4]
  have hm : t.val % 8 = 7 := (flush0_4 t).mp hf
  obtain ⟨e0, e1, e2, e3, e4, e5, e6⟩ := idx_facts4 t
  funext y
  have hy0 : (y 0).val < 4 := (y 0).isLt
  have hy1 : (y 1).val < 128 := (y 1).isLt
  have hy2 : (y 2).val < 128 := (y 2).isLt
  have hb0 : (((cfg0.win 4).blk t).view.emb y 0).val = win0_4.index t (0 : Fin 3) * 4 + 1 * (y 0).val := rfl
  have hb1 : (((cfg0.win 4).blk t).view.emb y 1).val = win0_4.index t (1 : Fin 3) * 128 + 1 * (y 1).val := rfl
  have hb2 : (((cfg0.win 4).blk t).view.emb y 2).val = win0_4.index t (2 : Fin 3) * 128 + 1 * (y 2).val := rfl
  show (outsAt0 m c t.val t.isLt).1 ((cfg0.win 4).xinj (grid0.coords t) y) = G m c (((cfg0.win 4).blk t).view.emb y)
  refine (out_at m c t hm _).trans ?_
  unfold G
  refine Finset.sum_congr rfl fun k _ => congr (congrArg (incN m c) ?_) ?_
  · show 8 * (t.val / 8) + k = 8 * ((((cfg0.win 4).blk t).view.emb y 2).val / 128) + k
    rw [hb2]; omega
  · funext a; apply Fin.ext
    match a with
    | ⟨0, _⟩ => show (y 0).val = (((cfg0.win 4).blk t).view.emb y 0).val; rw [hb0]; omega
    | ⟨1, _⟩ => show (y 1).val = (((cfg0.win 4).blk t).view.emb y 1).val; rw [hb1]; omega
    | ⟨2, _⟩ => show (y 2).val = (((cfg0.win 4).blk t).view.emb y 2).val % 128; rw [hb2]; omega

/-- An index of the array is in point `t`'s block iff each coordinate is in the block's range on its axis. -/
theorem mem_blk4 (t : Fin cfg0.N) (i : S4x128x1408.Idx) :
    i ∈ ((cfg0.win 4).blk t).view.set ↔ ∀ a : Fin 3, win0_4.index t a * S4x128x128.size a ≤ (i a).val ∧ (i a).val < win0_4.index t a * S4x128x128.size a + S4x128x128.size a := by
  show i ∈ ((View.whole main_v21).slice (win0_4.rect t)).set ↔ _
  rw [View.set_slice_whole, Rect.mem_set_unit]
  exact Iff.rfl

/-- THE COVERED INDICES: in some flushing point's block iff inside the box those blocks fill. -/
theorem covered_iff4 (i : S4x128x1408.Idx) :
    (∃ t : Fin cfg0.N, (cfg0.win 4).flush t = true ∧ i ∈ ((cfg0.win 4).blk t).view.set) ↔ 0 ≤ (i 0).val ∧ (i 0).val < 4 ∧ 0 ≤ (i 1).val ∧ (i 1).val < 128 ∧ 0 ≤ (i 2).val ∧ (i 2).val < 1408 := by
  constructor
  · rintro ⟨t, -, hi⟩
    rw [mem_blk4] at hi
    have b0 : win0_4.index t (0 : Fin 3) * 4 ≤ (i 0).val ∧ (i 0).val < win0_4.index t (0 : Fin 3) * 4 + 4 := hi 0
    have b1 : win0_4.index t (1 : Fin 3) * 128 ≤ (i 1).val ∧ (i 1).val < win0_4.index t (1 : Fin 3) * 128 + 128 := hi 1
    have b2 : win0_4.index t (2 : Fin 3) * 128 ≤ (i 2).val ∧ (i 2).val < win0_4.index t (2 : Fin 3) * 128 + 128 := hi 2
    obtain ⟨e0, e1, e2, e3⟩ := idx_facts4 t
    omega
  · intro h
    have hi0 : (i 0).val < 4 := (i 0).isLt
    have hi1 : (i 1).val < 128 := (i 1).isLt
    have hi2 : (i 2).val < 1408 := (i 2).isLt
    obtain ⟨t, hft, ht⟩ := idx_onto4 ⟨(i 0).val / 4 - 0, by omega⟩ ⟨(i 1).val / 128 - 0, by omega⟩ ⟨(i 2).val / 128 - 0, by omega⟩
    have q0 : win0_4.index t (0 : Fin 3) = (i 0).val / 4 - 0 + 0 := congrFun ht 0
    have q1 : win0_4.index t (1 : Fin 3) = (i 1).val / 128 - 0 + 0 := congrFun ht 1
    have q2 : win0_4.index t (2 : Fin 3) = (i 2).val / 128 - 0 + 0 := congrFun ht 2
    refine ⟨t, hft, ?_⟩
    rw [mem_blk4]
    intro a
    match a with
    | ⟨0, _⟩ => show win0_4.index t (0 : Fin 3) * 4 ≤ (i 0).val ∧ (i 0).val < win0_4.index t (0 : Fin 3) * 4 + 4; omega
    | ⟨1, _⟩ => show win0_4.index t (1 : Fin 3) * 128 ≤ (i 1).val ∧ (i 1).val < win0_4.index t (1 : Fin 3) * 128 + 128; omega
    | ⟨2, _⟩ => show win0_4.index t (2 : Fin 3) * 128 ≤ (i 2).val ∧ (i 2).val < win0_4.index t (2 : Fin 3) * 128 + 128; omega

/-- The output array after the launch. -/
theorem final4 (c : Dev nD) : (dats m 0 c).arrAt 4 cfg0.N = G m c :=
  (dats m 0 c).arrAt_eq_of_cover 4 _ (fun t hf => flushed4_eq m c t hf) (fun i => (covered_iff4 i).2 (by
    have h0 : (i 0).val < 4 := (i 0).isLt; have h1 : (i 1).val < 128 := (i 1).isLt; have h2 : (i 2).val < 1408 := (i 2).isLt; omega))

end Cert.KernelIdeal.Hand

end
-- ==== Proof.HostIn.lean ====
module

public import proofs.«01_k».proof.Proof.Gen.KernelIdeal.Frame
public import Idealize.ShloMosaic.Lib.StableHlo.Run
public import Idealize.ShloMosaic.Lib.StableHlo.RunRead
public import Idealize.ShloMosaic.Lib.Pipeline.Value
public import Idealize.ShloMosaic.Lib.Pointwise.Tactic
public import Idealize.ShloMosaic.Lib.ValueLayout

@[expose] public section

set_option maxRecDepth 65536
noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The zeros that the operand is interleaved with. -/
def zeroCol : FVec F S64x8192x1 .bf16 :=
  broadcastInDim S64x8192x1 ![0, 1] bcast_S64x8192_S64x8192x1_0_1 (broadcastInDim S64x8192 ![] bcast_S_S64x8192 (constant S_ .bf16 0x0000#16))

/-- The operand's rows, as a column of singletons. -/
def opCol (X : FVec F S64x1x8192 .bf16) : FVec F S64x8192x1 .bf16 :=
  broadcastInDim S64x8192x1 ![0, 1] bcast_S64x8192_S64x8192x1_0_1 (shapeCast S64x8192 X shapeCasts_S64x1x8192_S64x8192)

/-- Two columns of singletons, interleaved along the rows. -/
def weave {α : Type} (A B : S64x8192x1.Idx → α) : S64x16384.Idx → α :=
  shapeCast S64x16384 (concatenate S64x8192x2 2 [⟨S64x8192x1, A⟩, ⟨S64x8192x1, B⟩] concatenates_S64x8192x1_S64x8192x1_S64x8192x2_d2)
    shapeCasts_S64x8192x2_S64x16384

/-- The kernel's operand: the rows at the even places over zeros, above the rows at the odd places over zeros. -/
def x2arr (X : FVec F S64x1x8192 .bf16) : FVec F S128x16384 .bf16 :=
  concatenate S128x16384 0 [⟨S64x16384, weave (opCol X) zeroCol⟩, ⟨S64x16384, weave zeroCol (opCol X)⟩] concatenates_S64x16384_S64x16384_S128x16384_d0

theorem V_v10 (c : Dev nD) : V m c main_v10 = x2arr (m ((c : Thread nD τ).loc main_arg0)) := by
  show StableHlo.after hostOps0 (fun b => m (c, b)) (Proc.devRef .tc main_v10) = _
  unfold hostOps0
  after_reads_simp
  rfl

/-- A table of eight places with negative entries wrapped, as a column of start indices. -/
def places (t : IVec S8 32) : IVec S8x1 32 :=
  broadcastInDim S8x1 ![0] bcast_S8_S8x1_0
    (select (cmpi .slt t (broadcastInDim S8 ![] bcast_S_S8 (constantI S_ 32 0#32)))
      (addi t (broadcastInDim S8 ![] bcast_S_S8 (constantI S_ 32 8#32))) t)

/-- The scales with their columns in field order, transposed and doubled. -/
def s8arr (S : FVec F S64x11264 .bf16) : FVec F S64x16x1408 .bf16 :=
  let y := transpose S64x8x1408 [0, 2, 1]
    (Host.gather gather_S64x1408x8_S8x1_S64x1408x8_01_2_n_n_2_1_6414081 (shapeCast S64x1408x8 S shapeCasts_S64x11264_S64x1408x8)
      (places fun i => lit0 (S8.rowMajor i))) transposes_S64x1408x8_S64x8x1408_0_2_1
  concatenate S64x16x1408 1 [⟨S64x8x1408, y⟩, ⟨S64x8x1408, y⟩] concatenates_S64x8x1408_S64x8x1408_S64x16x1408_d1

theorem V_v20 (c : Dev nD) : V m c main_v20 = s8arr (m ((c : Thread nD τ).loc main_arg3)) := by
  show StableHlo.after hostOps0 (fun b => m (c, b)) (Proc.devRef .tc main_v20) = _
  unfold hostOps0
  after_reads_simp
  rfl

theorem V_c_0 (c : Dev nD) : V m c main_c_0 = fun i => lit1 (S8.rowMajor i) := by
  show StableHlo.after hostOps0 (fun b => m (c, b)) (Proc.devRef .tc main_c_0) = _
  unfold hostOps0
  after_reads_simp
  rfl

/-- The place in a group of eight columns of field `j`. -/
def order (j : ℕ) : ℕ := if j < 4 then 2 * j else 2 * (j - 4) + 1

/-- The field of column `o` of a group of eight. -/
def field (o : ℕ) : ℕ := o / 2 + 4 * (o % 2)

theorem order_place : ∀ j : Fin 8, (places (fun i => lit0 (S8.rowMajor i)) (ix2 j (0 : Fin 1))).toInt.toNat = order j.val := by
  decide +kernel

theorem field_place : ∀ j : Fin 8, (places (fun i => lit1 (S8.rowMajor i)) (ix2 j (0 : Fin 1))).toInt.toNat = field j.val := by
  decide +kernel

theorem gather_last {α : Type} (x : S64x1408x8.Idx → α) (p : IVec S8x1 32) (a : Fin 64) (b : Fin 1408) (j o : Fin 8)
    (hp : (p (ix2 j (0 : Fin 1))).toInt.toNat = o.val) :
    Host.gather gather_S64x1408x8_S8x1_S64x1408x8_01_2_n_n_2_1_6414081 x p (ix3 a b j) = x (ix3 a b o) := by
  unfold Host.gather
  refine congrArg x (funext fun q => Fin.ext ?_)
  match q with
  | ⟨0, _⟩ => exact Nat.zero_add _
  | ⟨1, _⟩ => exact Nat.zero_add _
  | ⟨2, _⟩ =>
    have hsi : ∀ k, (gather_S64x1408x8_S8x1_S64x1408x8_01_2_n_n_2_1_6414081).siIdx (ix3 a b j) k = ix2 j (0 : Fin 1) := fun k => by
      funext z; refine Fin.ext ?_
      match z with
      | ⟨0, _⟩ => rfl
      | ⟨1, _⟩ => exact Nat.lt_one_iff.mp (Fin.isLt _)
    show min (p _).toInt.toNat 7 + 0 + 0 = o.val
    rw [hsi, hp]
    have := o.isLt
    omega

theorem gather_first {α : Type} (x : S8x64x1408.Idx → α) (p : IVec S8x1 32) (a : Fin 64) (b : Fin 1408) (j o : Fin 8)
    (hp : (p (ix2 j (0 : Fin 1))).toInt.toNat = o.val) :
    Host.gather gather_S8x64x1408_S8x1_S8x64x1408_12_0_n_n_0_1_1641408 x p (ix3 j a b) = x (ix3 o a b) := by
  unfold Host.gather
  refine congrArg x (funext fun q => Fin.ext ?_)
  match q with
  | ⟨1, _⟩ => exact Nat.zero_add _
  | ⟨2, _⟩ => exact Nat.zero_add _
  | ⟨0, _⟩ =>
    have hsi : ∀ k, (gather_S8x64x1408_S8x1_S8x64x1408_12_0_n_n_0_1_1641408).siIdx (ix3 j a b) k = ix2 j (0 : Fin 1) := fun k => by
      funext z; refine Fin.ext ?_
      match z with
      | ⟨0, _⟩ => rfl
      | ⟨1, _⟩ => exact Nat.lt_one_iff.mp (Fin.isLt _)
    show min (p _).toInt.toNat 7 + 0 + 0 = o.val
    rw [hsi, hp]
    have := o.isLt
    omega

theorem opCol_apply (X : FVec F S64x1x8192 .bf16) (b : Fin 64) (d : Fin 8192) (u : Fin 1) :
    opCol X (ix3 b d u) = X (ix3 b (0 : Fin 1) d) := by
  unfold opCol
  refine (broadcastInDim_apply _ _ _ _ (ix2 b d) fun q => ?_).trans ?_
  · match q with
    | ⟨0, _⟩ => rfl
    | ⟨1, _⟩ => rfl
  refine shapeCast_apply _ _ _ _ ?_
  rw [Shape.rowMajor_val_three, Shape.rowMajor_val_two]
  show (b.val * 1 + 0) * 8192 + d.val = b.val * 8192 + d.val
  omega

theorem weave_even {α : Type} (A B : S64x8192x1.Idx → α) (b : Fin 64) (j : Fin 16384) (d : Fin 8192) (h : j.val = 2 * d.val) :
    weave A B (ix2 b j) = A (ix3 b d (0 : Fin 1)) := by
  unfold weave
  refine (shapeCast_apply _ _ _ (ix3 b d (0 : Fin 2)) ?_).trans ?_
  · rw [Shape.rowMajor_val_three, Shape.rowMajor_val_two]
    show (b.val * 8192 + d.val) * 2 + 0 = b.val * 16384 + j.val
    omega
  · refine concatenate_pair_apply_left (2 : Fin S64x8192x2.rank) A B concatenates_S64x8192x1_S64x8192x1_S64x8192x2_d2 (ix3 b d (0 : Fin 2)) rfl (ix3 b d (0 : Fin 1)) fun q => ?_
    match q with
    | ⟨0, _⟩ => rfl
    | ⟨1, _⟩ => rfl
    | ⟨2, _⟩ => rfl

theorem weave_odd {α : Type} (A B : S64x8192x1.Idx → α) (b : Fin 64) (j : Fin 16384) (d : Fin 8192) (h : j.val = 2 * d.val + 1) :
    weave A B (ix2 b j) = B (ix3 b d (0 : Fin 1)) := by
  unfold weave
  refine (shapeCast_apply _ _ _ (ix3 b d (1 : Fin 2)) ?_).trans ?_
  · rw [Shape.rowMajor_val_three, Shape.rowMajor_val_two]
    show (b.val * 8192 + d.val) * 2 + 1 = b.val * 16384 + j.val
    omega
  · refine concatenate_pair_apply_right (2 : Fin S64x8192x2.rank) A B concatenates_S64x8192x1_S64x8192x1_S64x8192x2_d2 (ix3 b d (1 : Fin 2)) rfl rfl (ix3 b d (0 : Fin 1)) (fun q hq => ?_) rfl
    match q with
    | ⟨0, _⟩ => rfl
    | ⟨1, _⟩ => rfl
    | ⟨2, _⟩ => exact absurd rfl hq

theorem x2_top (X : FVec F S64x1x8192 .bf16) (b : Fin 64) (r : Fin 128) (j : Fin 16384) (hr : r.val = b.val) :
    x2arr X (ix2 r j) = weave (opCol X) zeroCol (ix2 b j) := by
  unfold x2arr
  refine concatenate_pair_apply_left (0 : Fin S128x16384.rank) _ _ concatenates_S64x16384_S64x16384_S128x16384_d0 (ix2 r j) rfl (ix2 b j) fun q => ?_
  match q with
  | ⟨0, _⟩ => exact hr.symm
  | ⟨1, _⟩ => rfl

theorem x2_bottom (X : FVec F S64x1x8192 .bf16) (b : Fin 64) (r : Fin 128) (j : Fin 16384) (hr : r.val = b.val + 64) :
    x2arr X (ix2 r j) = weave zeroCol (opCol X) (ix2 b j) := by
  unfold x2arr
  refine concatenate_pair_apply_right (0 : Fin S128x16384.rank) _ _ concatenates_S64x16384_S64x16384_S128x16384_d0 (ix2 r j) rfl rfl (ix2 b j) (fun q hq => ?_) hr.symm
  match q with
  | ⟨0, _⟩ => exact absurd rfl hq
  | ⟨1, _⟩ => rfl

/-- Where the half of a row of the operand is the half of a place, the place holds the row's element. -/
theorem x2_same (X : FVec F S64x1x8192 .bf16) (b : Fin 64) (h : ℕ) (hh : h < 2) (d : Fin 8192) (r : Fin 128) (j : Fin 16384)
    (hr : r.val = 64 * h + b.val) (hj : j.val = 2 * d.val + h) : x2arr X (ix2 r j) = X (ix3 b (0 : Fin 1) d) := by
  rcases (show h = 0 ∨ h = 1 by omega) with rfl | rfl
  · exact (x2_top X b r j (by omega)).trans ((weave_even _ _ b j d (by omega)).trans (opCol_apply X b d 0))
  · exact (x2_bottom X b r j (by omega)).trans ((weave_odd _ _ b j d (by omega)).trans (opCol_apply X b d 0))

/-- Elsewhere it holds zero. -/
theorem x2_other (X : FVec F S64x1x8192 .bf16) (b : Fin 64) (h : ℕ) (hh : h < 2) (d : Fin 8192) (r : Fin 128) (j : Fin 16384)
    (hr : r.val = 64 * h + b.val) (hj : j.val = 2 * d.val + (1 - h)) :
    x2arr X (ix2 r j) = zeroCol (F := F) (ix3 b d (0 : Fin 1)) := by
  rcases (show h = 0 ∨ h = 1 by omega) with rfl | rfl
  · exact (x2_top X b r j (by omega)).trans (weave_odd _ _ b j d (by omega))
  · exact (x2_bottom X b r j (by omega)).trans (weave_even _ _ b j d (by omega))

theorem zeroCol_apply (i : S64x8192x1.Idx) : (zeroCol (F := Ideal) i : EReal) = 0 := by
  unfold zeroCol
  unfold broadcastInDim
  pointwise

theorem s8_apply (S : FVec F S64x11264 .bf16) (g : Fin 64) (r : Fin 16) (n : Fin 1408) (k : Fin 11264)
    (hk : k.val = 8 * n.val + order (r.val % 8)) : s8arr S (ix3 g r n) = S (ix2 g k) := by
  have key : ∀ j : Fin 8, j.val = r.val % 8 →
      transpose S64x8x1408 [0, 2, 1]
        (Host.gather gather_S64x1408x8_S8x1_S64x1408x8_01_2_n_n_2_1_6414081 (shapeCast S64x1408x8 S shapeCasts_S64x11264_S64x1408x8)
          (places fun i => lit0 (S8.rowMajor i))) transposes_S64x1408x8_S64x8x1408_0_2_1 (ix3 g j n) = S (ix2 g k) := fun j hj => by
    have hj' := j.isLt
    have ho : order j.val < 8 := by unfold order; split <;> omega
    refine Eq.trans (b := Host.gather gather_S64x1408x8_S8x1_S64x1408x8_01_2_n_n_2_1_6414081 (shapeCast S64x1408x8 S shapeCasts_S64x11264_S64x1408x8)
          (places fun i => lit0 (S8.rowMajor i)) (ix3 g n j)) ?_ ?_
    · refine transpose_apply _ _ _ _ (ix3 g n j) fun q => ?_
      match q with
      | ⟨0, _⟩ => rfl
      | ⟨1, _⟩ => rfl
      | ⟨2, _⟩ => rfl
    · refine (gather_last _ _ g n j ⟨order j.val, ho⟩ (order_place j)).trans (shapeCast_apply _ _ _ _ ?_)
      rw [Shape.rowMajor_val_three, Shape.rowMajor_val_two]
      show g.val * 11264 + k.val = (g.val * 1408 + n.val) * 8 + order j.val
      rw [hk, hj]; omega
  have hr := r.isLt
  unfold s8arr
  by_cases h : r.val < 8
  · refine (concatenate_pair_apply_left (1 : Fin S64x16x1408.rank) _ _ concatenates_S64x8x1408_S64x8x1408_S64x16x1408_d1 (ix3 g r n) rfl (ix3 g (⟨r.val, h⟩ : Fin 8) n) fun q => ?_).trans (key ⟨r.val, h⟩ (by show r.val = _; omega))
    match q with
    | ⟨0, _⟩ => rfl
    | ⟨1, _⟩ => rfl
    | ⟨2, _⟩ => rfl
  · refine (concatenate_pair_apply_right (1 : Fin S64x16x1408.rank) _ _ concatenates_S64x8x1408_S64x8x1408_S64x16x1408_d1 (ix3 g r n) rfl rfl (ix3 g (⟨r.val - 8, by omega⟩ : Fin 8) n) (fun q hq => ?_) (show r.val - 8 + 8 = r.val by omega)).trans
      (key ⟨r.val - 8, by omega⟩ (by show r.val - 8 = _; omega))
    match q with
    | ⟨0, _⟩ => rfl
    | ⟨1, _⟩ => exact absurd rfl hq
    | ⟨2, _⟩ => rfl

end Cert.KernelIdeal.Hand

end
-- ==== Proof.HostOut.lean ====
module

public import proofs.«01_k».proof.Proof.Fold
public import proofs.«01_k».proof.Proof.HostIn

@[expose] public section

set_option maxRecDepth 65536
noncomputable section

namespace Cert.KernelIdeal.Hand

open Cert.KernelIdeal Cert.KernelIdeal.Gen Idealize.ShloMosaic Idealize.ShloMosaic.TcCoe Idealize.SL.Sem
open scoped BigOperators

/-! ## The operations after the pipeline -/

/-- The result from the pipeline's output array: its planes in column order, interleaved along the rows. -/
def outArr {F : FTy → Type} (Y : FVec F S4x128x1408 .bf16) : FVec F S64x1x11264 .bf16 :=
  shapeCast S64x1x11264 (transpose S64x1408x8 [1, 2, 0]
    (Host.gather gather_S8x64x1408_S8x1_S8x64x1408_12_0_n_n_0_1_1641408 (shapeCast S8x64x1408 Y shapeCasts_S4x128x1408_S8x64x1408)
      (places fun i => lit1 (S8.rowMajor i))) transposes_S8x64x1408_S64x1408x8_1_2_0) shapeCasts_S64x1408x8_S64x1x11264

theorem out_after {F : FTy → Type} [FloatOps F] (W : Valuation τ sig (Elt F)) (Y : FVec F S4x128x1408 .bf16)
    (hY : W (Proc.devRef .tc main_v21) = Y) (hc : W (Proc.devRef .tc main_c_0) = fun i => lit1 (S8.rowMajor i)) :
    StableHlo.after hostOps1 W (Proc.devRef .tc main_v31) = outArr Y := by
  unfold hostOps1
  after_reads_simp
  rw [hY, hc]
  rfl

theorem out_apply {F : FTy → Type} (Y : FVec F S4x128x1408 .bf16) (b : Fin 64) (n : Fin 1408) (o : Fin 8) (k : Fin 11264)
    (p : Fin 4) (r : Fin 128) (hk : k.val = 8 * n.val + o.val) (hf : 128 * p.val + r.val = 64 * field o.val + b.val) :
    outArr Y (ix3 b (0 : Fin 1) k) = Y (ix3 p r n) := by
  have ho := o.isLt
  have hfo : field o.val < 8 := by unfold field; omega
  unfold outArr
  refine (shapeCast_apply _ _ _ (ix3 b n o) ?_).trans ?_
  · rw [Shape.rowMajor_val_three, Shape.rowMajor_val_three]
    show (b.val * 1408 + n.val) * 8 + o.val = (b.val * 1 + 0) * 11264 + k.val
    omega
  refine (transpose_apply _ _ _ _ (ix3 o b n) fun q => ?_).trans ?_
  · match q with
    | ⟨0, _⟩ => rfl
    | ⟨1, _⟩ => rfl
    | ⟨2, _⟩ => rfl
  refine (gather_first _ _ b n o ⟨field o.val, hfo⟩ (field_place o)).trans (shapeCast_apply _ _ _ _ ?_)
  rw [Shape.rowMajor_val_three, Shape.rowMajor_val_three]
  show (p.val * 128 + r.val) * 1408 + n.val = (field o.val * 64 + b.val) * 1408 + n.val
  omega

/-! ## The input blocks -/

variable (m : (ℓ : Loc nD τ sig) → Buf (Elt Ideal) ℓ)

theorem idx_facts0 : ∀ t : Fin cfg0.N, win0_0.index t (0 : Fin 2) = 0 ∧ win0_0.index t (1 : Fin 2) = t.val % 8 :=
  (by decide +kernel : ∀ t : Fin grid0.N, _)
theorem idx_facts1 : ∀ t : Fin cfg0.N, win0_1.index t (0 : Fin 2) = t.val % 8 ∧ win0_1.index t (1 : Fin 2) = t.val / 8 :=
  (by decide +kernel : ∀ t : Fin grid0.N, _)
theorem idx_facts2 : ∀ t : Fin cfg0.N, win0_2.index t (0 : Fin 2) = t.val % 8 ∧ win0_2.index t (1 : Fin 2) = t.val / 8 :=
  (by decide +kernel : ∀ t : Fin grid0.N, _)
theorem idx_facts3 : ∀ t : Fin cfg0.N, win0_3.index t (0 : Fin 3) = t.val % 8 ∧ win0_3.index t (1 : Fin 3) = 0
    ∧ win0_3.index t (2 : Fin 3) = t.val / 8 :=
  (by decide +kernel : ∀ t : Fin grid0.N, _)

theorem iblk0_apply (c : Dev nD) (t : Fin cfg0.N) (r : Fin 128) (j : Fin 2048) (j' : Fin 16384)
    (hj : j'.val = 2048 * (t.val % 8) + j.val) :
    (iblk m c 0 t : Vec Ideal S128x2048 .bf16) (ix2 r j) = x2arr (F := Ideal) (m ((c : Thread nD τ).loc main_arg0)) (ix2 r j') := by
  obtain ⟨e0, e1⟩ := idx_facts0 t
  have h0 : (((cfg0.win 0).blk t).view.emb (ix2 r j) 0).val = win0_0.index t (0 : Fin 2) * 128 + 1 * r.val := rfl
  have h1 : (((cfg0.win 0).blk t).view.emb (ix2 r j) 1).val = win0_0.index t (1 : Fin 2) * 2048 + 1 * j.val := rfl
  show V m c main_v10 (((cfg0.win 0).blk t).view.emb (ix2 r j)) = _
  rw [V_v10]
  refine congrArg (x2arr (F := Ideal) (m ((c : Thread nD τ).loc main_arg0))) (funext fun a => Fin.ext ?_)
  match a with
  | ⟨0, _⟩ => exact h0.trans (by rw [e0]; show _ = r.val; omega)
  | ⟨1, _⟩ => exact h1.trans (by rw [e1]; show _ = j'.val; omega)

theorem iblk1_apply (c : Dev nD) (t : Fin cfg0.N) (a : Fin 1024) (l : Fin 128) (d : Fin 8192) (n : Fin 1408)
    (hd : d.val = 1024 * (t.val % 8) + a.val) (hn : n.val = 128 * (t.val / 8) + l.val) :
    (iblk m c 1 t : IVec S1024x128 32) (ix2 a l) = (m ((c : Thread nD τ).loc main_arg1) : IVec S8192x1408 32) (ix2 d n) := by
  obtain ⟨e0, e1⟩ := idx_facts1 t
  have h0 : (((cfg0.win 1).blk t).view.emb (ix2 a l) 0).val = win0_1.index t (0 : Fin 2) * 1024 + 1 * a.val := rfl
  have h1 : (((cfg0.win 1).blk t).view.emb (ix2 a l) 1).val = win0_1.index t (1 : Fin 2) * 128 + 1 * l.val := rfl
  show V m c main_arg1 (((cfg0.win 1).blk t).view.emb (ix2 a l)) = _
  rw [V_main_arg1]
  refine congrArg (m ((c : Thread nD τ).loc main_arg1) : IVec S8192x1408 32) (funext fun q => Fin.ext ?_)
  match q with
  | ⟨0, _⟩ => exact h0.trans (by rw [e0]; show _ = d.val; omega)
  | ⟨1, _⟩ => exact h1.trans (by rw [e1]; show _ = n.val; omega)

theorem iblk2_apply (c : Dev nD) (t : Fin cfg0.N) (a : Fin 8) (l : Fin 128) (d : Fin 64) (n : Fin 1408)
    (hd : d.val = 8 * (t.val % 8) + a.val) (hn : n.val = 128 * (t.val / 8) + l.val) :
    (iblk m c 2 t : IVec S8x128 32) (ix2 a l) = (m ((c : Thread nD τ).loc main_arg2) : IVec S64x1408 32) (ix2 d n) := by
  obtain ⟨e0, e1⟩ := idx_facts2 t
  have h0 : (((cfg0.win 2).blk t).view.emb (ix2 a l) 0).val = win0_2.index t (0 : Fin 2) * 8 + 1 * a.val := rfl
  have h1 : (((cfg0.win 2).blk t).view.emb (ix2 a l) 1).val = win0_2.index t (1 : Fin 2) * 128 + 1 * l.val := rfl
  show V m c main_arg2 (((cfg0.win 2).blk t).view.emb (ix2 a l)) = _
  rw [V_main_arg2]
  refine congrArg (m ((c : Thread nD τ).loc main_arg2) : IVec S64x1408 32) (funext fun q => Fin.ext ?_)
  match q with
  | ⟨0, _⟩ => exact h0.trans (by rw [e0]; show _ = d.val; omega)
  | ⟨1, _⟩ => exact h1.trans (by rw [e1]; show _ = n.val; omega)

theorem iblk3_apply (c : Dev nD) (t : Fin cfg0.N) (a : Fin 8) (r : Fin 16) (l : Fin 128) (g : Fin 64) (n : Fin 1408)
    (hg : g.val = 8 * (t.val % 8) + a.val) (hn : n.val = 128 * (t.val / 8) + l.val) :
    (iblk m c 3 t : Vec Ideal S8x16x128 .bf16) (ix3 a r l) = s8arr (F := Ideal) (m ((c : Thread nD τ).loc main_arg3)) (ix3 g r n) := by
  obtain ⟨e0, e1, e2⟩ := idx_facts3 t
  have h0 : (((cfg0.win 3).blk t).view.emb (ix3 a r l) 0).val = win0_3.index t (0 : Fin 3) * 8 + 1 * a.val := rfl
  have h1 : (((cfg0.win 3).blk t).view.emb (ix3 a r l) 1).val = win0_3.index t (1 : Fin 3) * 16 + 1 * r.val := rfl
  have h2 : (((cfg0.win 3).blk t).view.emb (ix3 a r l) 2).val = win0_3.index t (2 : Fin 3) * 128 + 1 * l.val := rfl
  show V m c main_v20 (((cfg0.win 3).blk t).view.emb (ix3 a r l)) = _
  rw [V_v20]
  refine congrArg (s8arr (F := Ideal) (m ((c : Thread nD τ).loc main_arg3))) (funext fun q => Fin.ext ?_)
  match q with
  | ⟨0, _⟩ => exact h0.trans (by rw [e0]; show _ = g.val; omega)
  | ⟨1, _⟩ => exact h1.trans (by rw [e1]; show _ = r.val; omega)
  | ⟨2, _⟩ => exact h2.trans (by rw [e2]; show _ = n.val; omega)

end Cert.KernelIdeal.Hand

end
-- ==== Proof.Total.lean ====
module

public import proofs.«01_k».proof.Proof.HostOut

@[expose] public section

set_option maxRecDepth 65536
noncomputable section

namespace Cert.KernelIdeal.Hand

open Cert.KernelIdeal Cert.KernelIdeal.Gen Idealize.ShloMosaic Idealize.ShloMosaic.TcCoe Idealize.SL.Sem
open scoped BigOperators

/-! ## The sums -/

/-- A sum over an even number of terms, two at a time. -/
theorem sum_pairs (g : ℕ → EReal) (N : ℕ) :
    ∑ i ∈ Finset.range (2 * N), g i = ∑ a ∈ Finset.range N, (g (2 * a) + g (2 * a + 1)) := by
  induction N with
  | zero => rfl
  | succ N ih =>
    rw [Finset.sum_range_succ, ← ih, show 2 * (N + 1) = 2 * N + 1 + 1 from by omega, Finset.sum_range_succ, Finset.sum_range_succ,
      add_assoc]

/-- A sum of equal blocks is one sum. -/
theorem sum_blocks (T : ℕ → EReal) (B K : ℕ) :
    ∑ k ∈ Finset.range K, ∑ a ∈ Finset.range B, T (B * k + a) = ∑ d ∈ Finset.range (B * K), T d := by
  induction K with
  | zero => rfl
  | succ K ih => rw [Finset.sum_range_succ, ih, Nat.mul_succ, Finset.sum_range_add]

/-- One product of the dot: the operand's element `d` of row `b` times the weight of row `d`, column `k = 8 n + order f`, with its
    field `f` of packed column `n`. -/
def prod (X : FVec Ideal S64x1x8192 .bf16) (q : IVec S8192x1408 32) (z : IVec S64x1408 32) (S : FVec Ideal S64x11264 .bf16)
    (b : Fin 64) (n : Fin 1408) (k : Fin 11264) (f : ℕ) (d : Fin 8192) : EReal :=
  FloatOps.mulf (F := Ideal) (φ := .bf16) (X (ix3 b (0 : Fin 1) d))
    (FloatOps.mulf (F := Ideal) (φ := .bf16) (FloatOps.subf (F := Ideal) (φ := .bf16) (nibF (F := Ideal) (q (ix2 d n)) f)
      (nibF (F := Ideal) (z (ix2 (⟨d.val / 128, by have := d.isLt; omega⟩ : Fin 64) n)) f))
      (S (ix2 (⟨d.val / 128, by have := d.isLt; omega⟩ : Fin 64) k)))

/-- The same at a natural number, zero past the end. -/
def prodN (X : FVec Ideal S64x1x8192 .bf16) (q : IVec S8192x1408 32) (z : IVec S64x1408 32) (S : FVec Ideal S64x11264 .bf16)
    (b : Fin 64) (n : Fin 1408) (k : Fin 11264) (f d : ℕ) : EReal := if h : d < 8192 then prod X q z S b n k f ⟨d, h⟩ else 0

variable (m : (ℓ : Loc nD τ sig) → Buf (Elt Ideal) ℓ)

/-- One point's contribution to one element is its thousand products of the dot. -/
theorem inc_point (c : Dev nD) (t : Fin cfg0.N) (b : Fin 64) (n : Fin 1408) (k : Fin 11264) (p : Fin 4) (h : ℕ) (hh : h < 2)
    (r l : Fin 128) (hr : r.val = 64 * h + b.val) (hn : n.val = 128 * (t.val / 8) + l.val) (hk : k.val = 8 * n.val + order (2 * p.val + h)) :
    inc (iblk m c 0 t) (iblk m c 1 t) (iblk m c 2 t) (iblk m c 3 t) (ix3 p r l)
      = ∑ a ∈ Finset.range 1024, prodN (m ((c : Thread nD τ).loc main_arg0)) (m ((c : Thread nD τ).loc main_arg1))
          (m ((c : Thread nD τ).loc main_arg2)) (m ((c : Thread nD τ).loc main_arg3)) b n k (2 * p.val + h) (1024 * (t.val % 8) + a) := by
  have hp := p.isLt
  have hN : t.val < 88 := lt_of_lt_of_eq t.isLt (show cfg0.N = 88 from N_0)
  -- one term of the point's dot, at a place given as a number
  let w : Fin 2048 → EReal := fun j =>
    wordAt (F := Ideal) (iblk m c 1 t) (iblk m c 2 t) (iblk m c 3 t) (ix3 (⟨4 * (j.val / 2) + p.val, by have := j.isLt; omega⟩ : Fin 4096)
      (⟨j.val % 2, by omega⟩ : Fin 2) l)
  let g : ℕ → EReal := fun i => if hi : i < 2048 then
      (show EReal from (iblk m c 0 t : Vec Ideal S128x2048 .bf16) (ix2 r (⟨i, hi⟩ : Fin 2048))) * w ⟨i, hi⟩ else 0
  have e1 : inc (iblk m c 0 t) (iblk m c 1 t) (iblk m c 2 t) (iblk m c 3 t) (ix3 p r l) = ∑ i ∈ Finset.range (2 * 1024), g i := by
    rw [Finset.sum_range]
    refine Finset.sum_congr rfl fun j _ => ?_
    show _ = if hi : j.val < 2048 then _ else _
    rw [dif_pos j.isLt]
    rfl
  rw [e1, sum_pairs]
  refine Finset.sum_congr rfl fun a ha => ?_
  have ha' : a < 1024 := Finset.mem_range.mp ha
  have hd : 1024 * (t.val % 8) + a < 8192 := by omega
  have other : g (2 * a + (1 - h)) = 0 := by
    show (if hi : _ < 2048 then _ else _) = _
    rw [dif_pos (show 2 * a + (1 - h) < 2048 by omega)]
    rw [iblk0_apply m c t r ⟨2 * a + (1 - h), by omega⟩ ⟨2048 * (t.val % 8) + (2 * a + (1 - h)), by omega⟩ rfl,
      x2_other _ b h hh ⟨1024 * (t.val % 8) + a, hd⟩ r _ hr (by show 2048 * (t.val % 8) + (2 * a + (1 - h)) = 2 * (1024 * (t.val % 8) + a) + (1 - h); omega),
      zeroCol_apply, zero_mul]
  have same : g (2 * a + h) = prodN (m ((c : Thread nD τ).loc main_arg0)) (m ((c : Thread nD τ).loc main_arg1))
          (m ((c : Thread nD τ).loc main_arg2)) (m ((c : Thread nD τ).loc main_arg3)) b n k (2 * p.val + h) (1024 * (t.val % 8) + a) := by
    show (if hi : _ < 2048 then _ else _) = _
    rw [dif_pos (show 2 * a + h < 2048 by omega)]
    unfold prodN
    rw [dif_pos hd]
    rw [iblk0_apply m c t r ⟨2 * a + h, by omega⟩ ⟨2048 * (t.val % 8) + (2 * a + h), by omega⟩ rfl,
      x2_same _ b h hh ⟨1024 * (t.val % 8) + a, hd⟩ r _ hr (by show 2048 * (t.val % 8) + (2 * a + h) = 2 * (1024 * (t.val % 8) + a) + h; omega)]
    unfold prod
    refine congrArg (fun v : EReal => (show EReal from (m ((c : Thread nD τ).loc main_arg0) : FVec Ideal S64x1x8192 .bf16) (ix3 b (0 : Fin 1) (⟨1024 * (t.val % 8) + a, hd⟩ : Fin 8192))) * v) ?_
    show wordAt (F := Ideal) _ _ _ _ = _
    unfold wordAt
    have hf : 2 * ((4 * ((2 * a + h) / 2) + p.val) % 4) + (2 * a + h) % 2 = 2 * p.val + h := by omega
    refine congr (congrArg (FloatOps.mulf (F := Ideal) (φ := .bf16)) (congr (congrArg (FloatOps.subf (F := Ideal) (φ := .bf16)) ?_) ?_)) ?_
    · refine congr (congrArg (nibF (F := Ideal)) ?_) hf
      refine (congrArg (iblk m c 1 t : IVec S1024x128 32) (?_ : _ = ix2 (⟨a, ha'⟩ : Fin 1024) l)).trans (iblk1_apply m c t ⟨a, ha'⟩ l _ n rfl hn)
      refine congrArg (fun v : Fin 1024 => ix2 v l) (Fin.ext ?_)
      show (4 * ((2 * a + h) / 2) + p.val) / 4 = a
      omega
    · refine congr (congrArg (nibF (F := Ideal)) ?_) hf
      refine (congrArg (iblk m c 2 t : IVec S8x128 32) (?_ : _ = ix2 (⟨a / 128, by omega⟩ : Fin 8) l)).trans
        (iblk2_apply m c t ⟨a / 128, by omega⟩ l _ n (show (1024 * (t.val % 8) + a) / 128 = 8 * (t.val % 8) + a / 128 by omega) hn)
      refine congrArg (fun v : Fin 8 => ix2 v l) (Fin.ext ?_)
      show (4 * ((2 * a + h) / 2) + p.val) / 512 = a / 128
      omega
    · have hq : 2 * ((4 * ((2 * a + h) / 2) + p.val) % 8) + (2 * a + h) % 2 < 16 := by omega
      refine (congrArg (fun v : Fin 8 => (iblk m c 3 t : Vec Ideal S8x16x128 .bf16) (ix3 v (⟨2 * ((4 * ((2 * a + h) / 2) + p.val) % 8) + (2 * a + h) % 2, hq⟩ : Fin 16) l))
        (Fin.ext (show (4 * ((2 * a + h) / 2) + p.val) / 512 = a / 128 by omega) : _ = (⟨a / 128, by omega⟩ : Fin 8))).trans ?_
      refine (iblk3_apply m c t ⟨a / 128, by omega⟩ _ l (⟨(1024 * (t.val % 8) + a) / 128, by omega⟩ : Fin 64) n
        (show (1024 * (t.val % 8) + a) / 128 = 8 * (t.val % 8) + a / 128 by omega) hn).trans ?_
      refine s8_apply _ _ _ n k ?_
      rw [hk]
      refine congrArg (fun v => 8 * n.val + order v) ?_
      show 2 * p.val + h = (2 * ((4 * ((2 * a + h) / 2) + p.val) % 8) + (2 * a + h) % 2) % 8
      omega
  rw [← same]
  rcases (show h = 0 ∨ h = 1 by omega) with rfl | rfl
  · rw [show g (2 * a + 1) = 0 from other, add_zero]; rfl
  · rw [show g (2 * a) = 0 from other, zero_add]

theorem order_field : ∀ o : Fin 8, order (field o.val) = o.val := by decide

/-- The kernel's result, at an index: the dot of the operand's row with the dequantized column. -/
theorem out_total (c : Dev nD) (b : Fin 64) (n : Fin 1408) (o : Fin 8) (k : Fin 11264) (hk : k.val = 8 * n.val + o.val) :
    outArr (F := Ideal) (G m c) (ix3 b (0 : Fin 1) k)
      = ∑ d : Fin 8192, prod (m ((c : Thread nD τ).loc main_arg0)) (m ((c : Thread nD τ).loc main_arg1))
          (m ((c : Thread nD τ).loc main_arg2)) (m ((c : Thread nD τ).loc main_arg3)) b n k (field o.val) d := by
  have ho := o.isLt
  have hb := b.isLt
  have hn := n.isLt
  have hfo : field o.val < 8 := by unfold field; omega
  have hof := order_field o
  generalize hfe : field o.val = f at hfo hof
  refine (out_apply (F := Ideal) (G m c) b n o k ⟨f / 2, by omega⟩ ⟨64 * (f % 2) + b.val, by omega⟩ hk
    (by rw [hfe]; show 128 * (f / 2) + (64 * (f % 2) + b.val) = 64 * f + b.val; omega)).trans ?_
  have e : ∀ kk ∈ Finset.range 8, (incN m c (8 * (n.val / 128) + kk)
      (ix3 (⟨f / 2, by omega⟩ : Fin 4) (⟨64 * (f % 2) + b.val, by omega⟩ : Fin 128) (⟨n.val % 128, Nat.mod_lt _ (by decide)⟩ : Fin 128)) : EReal)
      = ∑ a ∈ Finset.range 1024, prodN (m ((c : Thread nD τ).loc main_arg0)) (m ((c : Thread nD τ).loc main_arg1))
          (m ((c : Thread nD τ).loc main_arg2)) (m ((c : Thread nD τ).loc main_arg3)) b n k f (1024 * kk + a) := fun kk hkk => by
    have hkk' : kk < 8 := Finset.mem_range.mp hkk
    have ht : 8 * (n.val / 128) + kk < cfg0.N := lt_of_lt_of_eq (by omega) (show cfg0.N = 88 from N_0).symm
    unfold incN
    rw [dif_pos ht]
    refine (inc_point m c ⟨8 * (n.val / 128) + kk, ht⟩ b n k ⟨f / 2, by omega⟩ (f % 2) (by omega) ⟨64 * (f % 2) + b.val, by omega⟩
      ⟨n.val % 128, Nat.mod_lt _ (by decide)⟩ rfl (by show n.val = 128 * ((8 * (n.val / 128) + kk) / 8) + n.val % 128; omega)
      (by rw [show 2 * (f / 2) + f % 2 = f by omega, hof, hk])).trans ?_
    refine Finset.sum_congr rfl fun a _ => ?_
    show prodN _ _ _ _ b n k (2 * (f / 2) + f % 2) (1024 * ((8 * (n.val / 128) + kk) % 8) + a) = _
    rw [show 2 * (f / 2) + f % 2 = f by omega, show (8 * (n.val / 128) + kk) % 8 = kk by omega]
  refine (Finset.sum_congr rfl e).trans ((sum_blocks _ 1024 8).trans ?_)
  rw [Finset.sum_range]
  refine Finset.sum_congr rfl fun d _ => ?_
  unfold prodN
  rw [dif_pos d.isLt]

end Cert.KernelIdeal.Hand

end
-- ==== Proof.Ref.lean ====
module

public import proofs.«01_k».proof.Proof.Total
public import proofs.«01_k».proof.Proof.Gen.ReferenceIdeal.Run
public import Idealize.ShloMosaic.Lib.StackMember
public import Idealize.ShloMosaic.Lib.Pipeline.ValueKit.Tiles

@[expose] public section

set_option maxRecDepth 65536
noncomputable section

namespace Cert.ReferenceIdeal.Hand

open Cert.ReferenceIdeal Cert.ReferenceIdeal.Gen Idealize.ShloMosaic Idealize.ShloMosaic.TcCoe Idealize.SL.Sem
open Cert.KernelIdeal.Hand (nibF nibW prod field)
open scoped BigOperators

/-- The fields at one shift of an array of packed words. -/
def fieldsQ (q : IVec S8192x1408 32) (v : BitVec 32) : FVec Ideal S8192x1408 .bf16 :=
  sitofp .bf16 (andi (Host.shrsi q (broadcastInDim S8192x1408 ![] bcast_S_S8192x1408 (constantI S_ 32 v)))
    (broadcastInDim S8192x1408 ![] bcast_S_S8192x1408 (constantI S_ 32 15#32)))

/-- The same of the packed zero points. -/
def fieldsZ (z : IVec S64x1408 32) (v : BitVec 32) : FVec Ideal S64x1408 .bf16 :=
  sitofp .bf16 (andi (Host.shrsi z (broadcastInDim S64x1408 ![] bcast_S_S64x1408 (constantI S_ 32 v)))
    (broadcastInDim S64x1408 ![] bcast_S_S64x1408 (constantI S_ 32 15#32)))

/-- A row of values per group, spread over the group's rows. -/
def spread (y : FVec Ideal S64x1408 .bf16) : FVec Ideal S64x128x1408 .bf16 :=
  broadcastInDim S64x128x1408 ![0, 1, 2] bcast_S64x1x1408_S64x128x1408_0_1_2 (broadcastInDim S64x1x1408 ![0, 2] bcast_S64x1408_S64x1x1408_0_2 y)

/-- The scales of column `o` of each group of eight. -/
def scalesAt (S : FVec Ideal S64x11264 .bf16) (o : ℕ) (ho : S64x1408x8.Slices ![0, 0, o] S64x1408x1) : FVec Ideal S64x1408 .bf16 :=
  shapeCast S64x1408 (extractStridedSlice S64x1408x1 ![0, 0, o] (shapeCast S64x1408x8 S shapeCasts_S64x11264_S64x1408x8) ho) shapeCasts_S64x1408x1_S64x1408

/-- The weights of one field. -/
def weights (q : IVec S8192x1408 32) (z : IVec S64x1408 32) (S : FVec Ideal S64x11264 .bf16) (v : BitVec 32) (o : ℕ)
    (ho : S64x1408x8.Slices ![0, 0, o] S64x1408x1) : FVec Ideal S8192x1408 .bf16 :=
  shapeCast S8192x1408 (mulf (subf (shapeCast S64x128x1408 (fieldsQ q v) shapeCasts_S8192x1408_S64x128x1408) (spread (fieldsZ z v)))
    (spread (scalesAt S o ho))) shapeCasts_S64x128x1408_S8192x1408

/-- The dot of one field, as a piece of the stacked result. -/
def piece (X : FVec Ideal S64x1x8192 .bf16) (q : IVec S8192x1408 32) (z : IVec S64x1408 32) (S : FVec Ideal S64x11264 .bf16) (v : BitVec 32) (o : ℕ)
    (ho : S64x1408x8.Slices ![0, 0, o] S64x1408x1) : FVec Ideal S64x1x1408x1 .f32 :=
  broadcastInDim S64x1x1408x1 ![0, 1, 2] bcast_S64x1x1408_S64x1x1408x1_0_1_2
    (Host.dotGeneral dot_S64x1x8192_S8192x1408_S64x1x1408_2_0_01_1_n_n none X (weights q z S v o ho))

/-- A field read by the host's shift is the field the kernel reads. -/
theorem nib_eq (x : BitVec 32) : ∀ f : Fin 8, IntOp.andi (IntOp.shrsi .host x (BitVec.ofNat 32 (4 * f.val))) 15#32 = nibW x f.val
  | 0 | 1 | 2 | 3 | 4 | 5 | 6 | 7 => rfl

theorem fieldsQ_apply (q : IVec S8192x1408 32) (f : Fin 8) (i : S8192x1408.Idx) :
    fieldsQ q (BitVec.ofNat 32 (4 * f.val)) i = nibF (F := Ideal) (q i) f.val :=
  congrArg (FloatOps.sitofp (F := Ideal) .bf16) (nib_eq (q i) f)

theorem fieldsZ_apply (z : IVec S64x1408 32) (f : Fin 8) (i : S64x1408.Idx) :
    fieldsZ z (BitVec.ofNat 32 (4 * f.val)) i = nibF (F := Ideal) (z i) f.val :=
  congrArg (FloatOps.sitofp (F := Ideal) .bf16) (nib_eq (z i) f)

theorem spread_apply (y : FVec Ideal S64x1408 .bf16) (g : Fin 64) (a : Fin 128) (n : Fin 1408) :
    spread y (ix3 g a n) = y (ix2 g n) := by
  unfold spread
  refine (broadcastInDim_apply _ _ _ _ (ix3 g (0 : Fin 1) n) fun q => ?_).trans (broadcastInDim_apply _ _ _ _ (ix2 g n) fun q => ?_)
  · match q with
    | ⟨0, _⟩ => rfl
    | ⟨1, _⟩ => rfl
    | ⟨2, _⟩ => rfl
  · match q with
    | ⟨0, _⟩ => rfl
    | ⟨1, _⟩ => rfl

theorem scalesAt_apply (S : FVec Ideal S64x11264 .bf16) (o : ℕ) (ho : S64x1408x8.Slices ![0, 0, o] S64x1408x1) (g : Fin 64) (n : Fin 1408)
    (k : Fin 11264) (ho8 : o < 8) (hk : k.val = 8 * n.val + o) : scalesAt S o ho (ix2 g n) = S (ix2 g k) := by
  unfold scalesAt
  refine (shapeCast_apply _ _ _ (ix3 g n (0 : Fin 1)) ?_).trans ?_
  · rw [Shape.rowMajor_val_three, Shape.rowMajor_val_two]
    show (g.val * 1408 + n.val) * 1 + 0 = g.val * 1408 + n.val
    omega
  refine (extractStridedSlice_apply _ _ _ _ (ix3 g n (⟨o, ho8⟩ : Fin 8)) fun q => ?_).trans (shapeCast_apply _ _ _ _ ?_)
  · match q with
    | ⟨0, _⟩ => exact (Nat.zero_add _).symm
    | ⟨1, _⟩ => exact (Nat.zero_add _).symm
    | ⟨2, _⟩ => rfl
  · rw [Shape.rowMajor_val_three, Shape.rowMajor_val_two]
    show g.val * 11264 + k.val = (g.val * 1408 + n.val) * 8 + o
    omega

theorem weights_apply (q : IVec S8192x1408 32) (z : IVec S64x1408 32) (S : FVec Ideal S64x11264 .bf16) (f : Fin 8) (o : ℕ)
    (ho : S64x1408x8.Slices ![0, 0, o] S64x1408x1) (d : Fin 8192) (n : Fin 1408) (k : Fin 11264) (ho8 : o < 8) (hk : k.val = 8 * n.val + o) :
    weights q z S (BitVec.ofNat 32 (4 * f.val)) o ho (ix2 d n)
      = FloatOps.mulf (F := Ideal) (φ := .bf16) (FloatOps.subf (F := Ideal) (φ := .bf16) (nibF (F := Ideal) (q (ix2 d n)) f.val)
          (nibF (F := Ideal) (z (ix2 (⟨d.val / 128, by have := d.isLt; omega⟩ : Fin 64) n)) f.val))
        (S (ix2 (⟨d.val / 128, by have := d.isLt; omega⟩ : Fin 64) k)) := by
  have hd := d.isLt
  unfold weights
  refine (shapeCast_apply _ _ _ (ix3 (⟨d.val / 128, by omega⟩ : Fin 64) (⟨d.val % 128, by omega⟩ : Fin 128) n) ?_).trans ?_
  · rw [Shape.rowMajor_val_three, Shape.rowMajor_val_two]
    show (d.val / 128 * 128 + d.val % 128) * 1408 + n.val = d.val * 1408 + n.val
    omega
  refine congr (congrArg (FloatOps.mulf (F := Ideal) (φ := .bf16)) (congr (congrArg (FloatOps.subf (F := Ideal) (φ := .bf16)) ?_) ?_)) ?_
  · refine (shapeCast_apply _ _ _ (ix2 d n) ?_).trans (fieldsQ_apply q f _)
    rw [Shape.rowMajor_val_three, Shape.rowMajor_val_two]
    show d.val * 1408 + n.val = (d.val / 128 * 128 + d.val % 128) * 1408 + n.val
    omega
  · exact (spread_apply _ _ _ _).trans (fieldsZ_apply z f _)
  · exact (spread_apply _ _ _ _).trans (scalesAt_apply S o ho _ n k ho8 hk)

/-- The dot at an index. -/
theorem dot_apply (X : FVec Ideal S64x1x8192 .bf16) (Y : FVec Ideal S8192x1408 .bf16) (b : Fin 64) (n : Fin 1408) :
    Host.dotGeneral dot_S64x1x8192_S8192x1408_S64x1x1408_2_0_01_1_n_n none X Y (ix3 b (0 : Fin 1) n)
      = ∑ d : Fin 8192, (show EReal from X (ix3 b (0 : Fin 1) d)) * (show EReal from Y (ix2 d n)) := by
  show FloatOps.dotGeneral _ none _ X Y (ix3 b (0 : Fin 1) n) = _
  rw [Ideal.dotGeneral_apply, ← Equiv.sum_comp (ValueIdx.contrEquiv1 dot_S64x1x8192_S8192x1408_S64x1x1408_2_0_01_1_n_n 8192 rfl rfl).symm]
  refine Finset.sum_congr rfl fun d _ => ?_
  have c2 := ValueIdx.contrEquiv1_symm_val dot_S64x1x8192_S8192x1408_S64x1x1408_2_0_01_1_n_n 8192 rfl rfl d
  have l2 : dot_S64x1x8192_S8192x1408_S64x1x1408_2_0_01_1_n_n.lhsIdx (ix3 b (0 : Fin 1) n) ((ValueIdx.contrEquiv1 _ 8192 rfl rfl).symm d) = ix3 b (0 : Fin 1) d := by
    funext ax; apply Fin.ext
    match ax with
    | ⟨0, _⟩ => simp [DotDims.lhsIdx, dot_S64x1x8192_S8192x1408_S64x1x1408_2_0_01_1_n_n]; rfl
    | ⟨1, _⟩ => simp [DotDims.lhsIdx, dot_S64x1x8192_S8192x1408_S64x1x1408_2_0_01_1_n_n]
    | ⟨2, _⟩ => simp [DotDims.lhsIdx, dot_S64x1x8192_S8192x1408_S64x1x1408_2_0_01_1_n_n]; exact c2
  have r2 : dot_S64x1x8192_S8192x1408_S64x1x1408_2_0_01_1_n_n.rhsIdx (ix3 b (0 : Fin 1) n) ((ValueIdx.contrEquiv1 _ 8192 rfl rfl).symm d) = ix2 d n := by
    funext ax; apply Fin.ext
    match ax with
    | ⟨0, _⟩ => simp [DotDims.rhsIdx, dot_S64x1x8192_S8192x1408_S64x1x1408_2_0_01_1_n_n]; exact c2
    | ⟨1, _⟩ => simp [DotDims.rhsIdx, dot_S64x1x8192_S8192x1408_S64x1x1408_2_0_01_1_n_n]; rfl
  rw [l2, r2]

theorem piece_apply (X : FVec Ideal S64x1x8192 .bf16) (q : IVec S8192x1408 32) (z : IVec S64x1408 32) (S : FVec Ideal S64x11264 .bf16)
    (f : Fin 8) (o : ℕ) (ho : S64x1408x8.Slices ![0, 0, o] S64x1408x1) (b : Fin 64) (n : Fin 1408) (k : Fin 11264) (ho8 : o < 8)
    (hk : k.val = 8 * n.val + o) (i : S64x1x1408x1.Idx) (hi : i = ix4 b (0 : Fin 1) n (0 : Fin 1)) :
    piece X q z S (BitVec.ofNat 32 (4 * f.val)) o ho i = ∑ d : Fin 8192, prod X q z S b n k f.val d := by
  subst hi
  unfold piece
  refine (broadcastInDim_apply _ _ _ _ (ix3 b (0 : Fin 1) n) fun a => ?_).trans ((dot_apply X _ b n).trans ?_)
  · match a with
    | ⟨0, _⟩ => rfl
    | ⟨1, _⟩ => rfl
    | ⟨2, _⟩ => rfl
  refine Finset.sum_congr rfl fun d _ => ?_
  unfold prod
  exact congrArg (fun v : EReal => (show EReal from X (ix3 b (0 : Fin 1) d)) * v) (weights_apply q z S f o ho d n k ho8 hk)

/-- The eight pieces, in column order. -/
def pieces (X : FVec Ideal S64x1x8192 .bf16) (q : IVec S8192x1408 32) (z : IVec S64x1408 32) (S : FVec Ideal S64x11264 .bf16) :
    List ((s : Shape) × (s.Idx → EReal)) :=
  [⟨S64x1x1408x1, piece X q z S 0#32 0 slices_S64x1408x8_S64x1408x1_0_0_0⟩, ⟨S64x1x1408x1, piece X q z S 16#32 1 slices_S64x1408x8_S64x1408x1_0_0_1⟩,
   ⟨S64x1x1408x1, piece X q z S 4#32 2 slices_S64x1408x8_S64x1408x1_0_0_2⟩, ⟨S64x1x1408x1, piece X q z S 20#32 3 slices_S64x1408x8_S64x1408x1_0_0_3⟩,
   ⟨S64x1x1408x1, piece X q z S 8#32 4 slices_S64x1408x8_S64x1408x1_0_0_4⟩, ⟨S64x1x1408x1, piece X q z S 24#32 5 slices_S64x1408x8_S64x1408x1_0_0_5⟩,
   ⟨S64x1x1408x1, piece X q z S 12#32 6 slices_S64x1408x8_S64x1408x1_0_0_6⟩, ⟨S64x1x1408x1, piece X q z S 28#32 7 slices_S64x1408x8_S64x1408x1_0_0_7⟩]

theorem res_eq (V0 : Valuation τ sig (Elt Ideal)) : Value.res_main_v177 V0
    = concatenate S64x1x1408x8 3 (pieces (V0 (Proc.devRef .tc main_arg0)) (V0 (Proc.devRef .tc main_arg1)) (V0 (Proc.devRef .tc main_arg2)) (V0 (Proc.devRef .tc main_arg3)))
      concatenates_S64x1x1408x1_S64x1x1408x1_S64x1x1408x1_S64x1x1408x1_S64x1x1408x1_S64x1x1408x1_S64x1x1408x1_S64x1x1408x1_S64x1x1408x8_d3 := rfl

theorem piece_at (X : FVec Ideal S64x1x8192 .bf16) (q : IVec S8192x1408 32) (z : IVec S64x1408 32) (S : FVec Ideal S64x11264 .bf16)
    (f : Fin 8) (o : ℕ) (ho : S64x1408x8.Slices ![0, 0, o] S64x1408x1) (b : Fin 64) (n : Fin 1408) (o' : Fin 8) (k : Fin 11264)
    (hk : k.val = 8 * n.val + o'.val) (ho8 : o < 8) (hf : f.val = field o) :
    PieceAt (3 : Fin S64x1x1408x8.rank) (ix4 b (0 : Fin 1) n o') (∑ d : Fin 8192, prod X q z S b n k (field o'.val) d) S64x1x1408x1
      (piece X q z S (BitVec.ofNat 32 (4 * f.val)) o ho) o := by
  intro hj hr i h0 hi
  have hj' : o'.val = o := hj
  rw [hj', ← hf]
  refine piece_apply X q z S f o ho b n k ho8 (by omega) i (funext fun a => Fin.ext ?_)
  match a with
  | ⟨0, _⟩ => exact hi 0 (by decide)
  | ⟨1, _⟩ => exact hi 1 (by decide)
  | ⟨2, _⟩ => exact hi 2 (by decide)
  | ⟨3, _⟩ => exact h0

/-- The reference's stacked result, at an index. -/
theorem stacked_apply (X : FVec Ideal S64x1x8192 .bf16) (q : IVec S8192x1408 32) (z : IVec S64x1408 32) (S : FVec Ideal S64x11264 .bf16)
    (b : Fin 64) (n : Fin 1408) (o : Fin 8) (k : Fin 11264) (hk : k.val = 8 * n.val + o.val) :
    concatenate S64x1x1408x8 3 (pieces X q z S)
      concatenates_S64x1x1408x1_S64x1x1408x1_S64x1x1408x1_S64x1x1408x1_S64x1x1408x1_S64x1x1408x1_S64x1x1408x1_S64x1x1408x1_S64x1x1408x8_d3 (ix4 b (0 : Fin 1) n o)
      = ∑ d : Fin 8192, prod X q z S b n k (field o.val) d :=
  concatenate_unit_eq _ _ _ _ _ rfl
    ⟨piece_at X q z S 0 0 _ b n o k hk (by decide) rfl, piece_at X q z S 4 1 _ b n o k hk (by decide) rfl,
     piece_at X q z S 1 2 _ b n o k hk (by decide) rfl, piece_at X q z S 5 3 _ b n o k hk (by decide) rfl,
     piece_at X q z S 2 4 _ b n o k hk (by decide) rfl, piece_at X q z S 6 5 _ b n o k hk (by decide) rfl,
     piece_at X q z S 3 6 _ b n o k hk (by decide) rfl, piece_at X q z S 7 7 _ b n o k hk (by decide) rfl, trivial⟩

/-- The reference's result, at an index. -/
theorem ref_total (V0 : Valuation τ sig (Elt Ideal)) (b : Fin 64) (n : Fin 1408) (o : Fin 8) (k : Fin 11264) (hk : k.val = 8 * n.val + o.val) :
    (truncf .bf16 (shapeCast S64x1x11264 (Value.res_main_v177 V0) shapeCasts_S64x1x1408x8_S64x1x11264) bitsLt_bf16_f32 : FVec Ideal S64x1x11264 .bf16) (ix3 b (0 : Fin 1) k)
      = ∑ d : Fin 8192, prod (V0 (Proc.devRef .tc main_arg0)) (V0 (Proc.devRef .tc main_arg1)) (V0 (Proc.devRef .tc main_arg2))
          (V0 (Proc.devRef .tc main_arg3)) b n k (field o.val) d := by
  refine Eq.trans (b := shapeCast S64x1x11264 (Value.res_main_v177 V0) shapeCasts_S64x1x1408x8_S64x1x11264 (ix3 b (0 : Fin 1) k)) rfl ?_
  refine (shapeCast_apply _ _ _ (ix4 b (0 : Fin 1) n o) ?_).trans ?_
  · rw [Shape.rowMajor_val_three, Shape.rowMajor_val_four]
    show ((b.val * 1 + 0) * 1408 + n.val) * 8 + o.val = (b.val * 1 + 0) * 11264 + k.val
    omega
  rw [res_eq]
  exact stacked_apply _ _ _ _ b n o k hk

end Cert.ReferenceIdeal.Hand

end
-- ==== Proof.End.lean ====
module

public import proofs.«01_k».proof.Defs
public import proofs.«01_k».proof.Proof.Ref

@[expose] public section

set_option maxRecDepth 65536
noncomputable section

namespace Cert.KernelIdeal.Hand

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- What the operations after the pipeline leave in the result, from the arrays it left. -/
theorem tail_result (c : Dev nD) :
    Pipeline.afterTail₀ cfgs (dats m) 0 (V0 m) [hostOps1] c main_v31 = outArr (F := Ideal) (G m c) := by
  show StableHlo.after hostOps1 (Pipeline.withArrays spec0 c (V0 m c) fun w => (dats m 0 c).arrAt w cfg0.N) (Proc.devRef .tc main_v31) = _
  refine out_after _ _ ?_ ?_
  · exact (Pipeline.withArrays_arr spec0 (by decide) c (V0 m c) _ 4).trans (final4 m c)
  · exact (Pipeline.withArrays_of_ne spec0 c (V0 m c) _ main_c_0 (by exact (by decide : ∀ w, Pipeline.arrRef spec0 w ≠ main_c_0))).trans (V_c_0 m c)

/-- The kernel's run: its result is the accumulated output array put in column order, its arguments are unchanged. -/
theorem kernelRun : θ_run defs (onTc (τ := τ) (main (F := Ideal))) ⟨m, fun _ => 0, ρ⟩ fun r => ∀ c : Dev nD,
      r.2.mem ((c.tc : Thread nD τ).loc main_v31) = outArr (F := Ideal) (G m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).2 main_v31 (Pipeline.mem_restRefs_of main_v31 (by decide) (by decide))).trans (tail_result m c), h.2 c⟩)
    (θ_run_and (run_main m ρ) (unchanged m ρ))

end Cert.KernelIdeal.Hand

namespace Cert.Hand

open Idealize.ShloMosaic Idealize.ShloMosaic.TcCoe Idealize.SL.Sem

/-- Equal arguments have equal products. -/
theorem prod_congr {X X' : FVec Ideal Cert.KernelIdeal.S64x1x8192 .bf16} {q q' : IVec Cert.KernelIdeal.S8192x1408 32}
    {z z' : IVec Cert.KernelIdeal.S64x1408 32} {S S' : FVec Ideal Cert.KernelIdeal.S64x11264 .bf16} {b : Fin 64} {n : Fin 1408} {k : Fin 11264}
    {f : ℕ} {d : Fin 8192} (hX : X = X') (hq : q = q') (hz : z = z') (hS : S = S') :
    Cert.KernelIdeal.Hand.prod X q z S b n k f d = Cert.KernelIdeal.Hand.prod X' q' z' S' b n k f d := by
  subst hX; subst hq; subst hz; subst hS; rfl

/-- The two programs compute the same result: at each index, the dot of a row of the operand with a dequantized column. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.Hand.kernelRun m ρ, ?_⟩
  refine (θ_run _ _ _).mono (fun r h c => ⟨(h c).1.trans ?_, (h c).2⟩) (Cert.ReferenceIdeal.Value.run (F := Ideal) m' ρ')
  obtain ⟨a0, a1, a2, a3⟩ := hagree c
  refine funext fun i => ?_
  have key : ∀ (b : Fin 64) (u : Fin 1) (k : Fin 11264), i = ix3 b u k →
      (truncf .bf16 (shapeCast Cert.ReferenceIdeal.S64x1x11264 (Cert.ReferenceIdeal.Value.res_main_v177 (F := Ideal) (StableHlo.launchContents m' c))
        Cert.ReferenceIdeal.Facts₀.shapeCasts_S64x1x1408x8_S64x1x11264) Cert.ReferenceIdeal.Facts₀.bitsLt_bf16_f32
          : FVec Ideal Cert.ReferenceIdeal.S64x1x11264 .bf16) i = Cert.KernelIdeal.Hand.outArr (F := Ideal) (Cert.KernelIdeal.Hand.G m c) i := by
    intro b u k hi
    have hu : u = 0 := Fin.ext (by omega)
    subst hu
    rw [hi]
    have hk := k.isLt
    refine (Cert.ReferenceIdeal.Hand.ref_total _ b ⟨k.val / 8, by omega⟩ ⟨k.val % 8, by omega⟩ k (by show k.val = 8 * (k.val / 8) + k.val % 8; omega)).trans ?_
    refine Eq.trans ?_ (Cert.KernelIdeal.Hand.out_total m c b ⟨k.val / 8, by omega⟩ ⟨k.val % 8, by omega⟩ k (by show k.val = 8 * (k.val / 8) + k.val % 8; omega)).symm
    refine Finset.sum_congr rfl fun d _ => ?_
    exact prod_congr a0 a1 a2 a3
  refine key (i 0) (i 1) (i 2) (funext fun a => ?_)
  match a with
  | ⟨0, _⟩ => rfl
  | ⟨1, _⟩ => rfl
  | ⟨2, _⟩ => rfl

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.End
public import Idealize.ShloMosaic.Adequacy
public import Idealize.ShloMosaic.Lib.Bf16Pair
public import Idealize.ShloMosaic.Lib.Bf16PairInverse
public import Idealize.ShloMosaic.Init

@[expose] public section

noncomputable section

namespace Cert.Proof

open Idealize.ShloMosaic Idealize.SL.Sem Cert.Kernel

/-- The reference keeps its arguments and leaves every semaphore counter at zero. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The rewrites of the idealized kernel are the sanctioned ones: each site's statement holds. -/
theorem preserves : Cert.preserves_Kernel_KernelIdeal :=
  ⟨IdealRules.bf16_pair.bufferStatement _ _, IdealRules.bf16_pair.statement _ _, IdealRules.bf16_pair.statement _ _,
    IdealRules.bf16_pair.statement _ _, IdealRules.bf16_pair.statement _ _⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_ReferenceIdeal, preserves,
  Cert.Hand.algebraic⟩

end Cert.Proof

end
